-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x50000 : Shape := ⟨2, ![16, 50000]⟩
abbrev S50000 : Shape := ⟨1, ![50000]⟩
abbrev S1600000 : Shape := ⟨1, ![1600000]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel

variable [Facts]

def fn {F : FTy → Type} [FloatOps F] (main_arg0 : IVec S16x50000 32) (main_arg1 : FVec F S50000 .f32) (main_arg2 : FVec F S1600000 .f32) (main_arg3 : IVec S1600000 32) (main_arg4 : IVec S1600000 32) : IVec S_ 1 :=
  let main_c : IVec S_ 32 := constantI S_ 32 0#32
  let main_v0 : IVec S1600000 32 := broadcastInDim S1600000 ![] bcast_S_S1600000 main_c
  let main_v1 : IVec S1600000 1 := cmpi .sge main_arg3 main_v0
  let main_c_0 : IVec S_ 32 := constantI S_ 32 50000#32
  let main_v2 : IVec S1600000 32 := broadcastInDim S1600000 ![] bcast_S_S1600000 main_c_0
  let main_v3 : IVec S1600000 1 := cmpi .slt main_arg3 main_v2
  let main_v4 : IVec S1600000 1 := andi main_v1 main_v3
  let main_c_1 : IVec S_ 32 := constantI S_ 32 0#32
  let main_v5 : IVec S1600000 32 := broadcastInDim S1600000 ![] bcast_S_S1600000 main_c_1
  let main_v6 : IVec S1600000 1 := cmpi .sge main_arg4 main_v5
  let main_v7 : IVec S1600000 1 := andi main_v4 main_v6
  let main_c_2 : IVec S_ 32 := constantI S_ 32 50000#32
  let main_v8 : IVec S1600000 32 := broadcastInDim S1600000 ![] bcast_S_S1600000 main_c_2
  let main_v9 : IVec S1600000 1 := cmpi .slt main_arg4 main_v8
  let main_v10 : IVec S1600000 1 := andi main_v7 main_v9
  let main_c_3 : IVec S_ 1 := constantI S_ 1 1#1
  let main_v11 : IVec S_ 1 := (fun x v => Host.reduce IntOp.andi x v reducesTo_S1600000_S_d0 h_S_) main_v10 main_c_3
  main_v11
-- ==== Kernel.lean ====
abbrev S16x50000 : Shape := ⟨2, ![16, 50000]⟩
abbrev S50000 : Shape := ⟨1, ![50000]⟩
abbrev S1600000 : Shape := ⟨1, ![1600000]⟩
abbrev S16 : Shape := ⟨1, ![16]⟩
abbrev S8x50000 : Shape := ⟨2, ![8, 50000]⟩
abbrev S1x50000 : Shape := ⟨2, ![1, 50000]⟩
abbrev S16x1 : Shape := ⟨2, ![16, 1]⟩
abbrev S32x4x16 : Shape := ⟨3, ![32, 4, 16]⟩
abbrev S2000 : Shape := ⟨1, ![2000]⟩
abbrev S4x16 : Shape := ⟨2, ![4, 16]⟩
abbrev S_ : Shape := ⟨0, ![]⟩
abbrev S1x16 : Shape := ⟨2, ![1, 16]⟩
abbrev S1x4x16 : Shape := ⟨3, ![1, 4, 16]⟩
abbrev S4x8x4x16 : Shape := ⟨4, ![4, 8, 4, 16]⟩
abbrev S4x4 : Shape := ⟨2, ![4, 4]⟩

abbrev nBuf : Table → Nat
  | .hbm => 23
  | .local .tc .vmem => 5
  | .local .scVector .vmem => 15
  | _ => 0

abbrev bufTy : (tb : Table) → Fin (nBuf tb) → BufTy
  | .hbm, ⟨0, _⟩ => ⟨S16x50000, .i32⟩
  | .hbm, ⟨1, _⟩ => ⟨S50000, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S16, .i32⟩
  | .hbm, ⟨6, _⟩ => ⟨S16, .i1⟩
  | .hbm, ⟨7, _⟩ => ⟨S8x50000, .i32⟩
  | .hbm, ⟨8, _⟩ => ⟨S1x50000, .f32⟩
  | .hbm, ⟨9, _⟩ => ⟨S16x1, .f32⟩
  | .hbm, ⟨10, _⟩ => ⟨S32x4x16, .f32⟩
  | .hbm, ⟨11, _⟩ => ⟨S4x8x4x16, .f32⟩
  | .hbm, ⟨12, _⟩ => ⟨S_, .f32⟩
  | .hbm, ⟨13, _⟩ => ⟨S4x4, .f32⟩
  | .hbm, ⟨14, _⟩ => ⟨S16, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S16, .f32⟩
  | .hbm, ⟨21, _⟩ => ⟨S16, .f32⟩
  | .hbm, ⟨22, _⟩ => ⟨S16, .f32⟩
  | .local .tc .vmem, ⟨0, _⟩ => ⟨S16x50000, .i32⟩
  | .local .tc .vmem, ⟨1, _⟩ => ⟨S8x50000, .i32⟩
  | .local .tc .vmem, ⟨2, _⟩ => ⟨S16x50000, .i32⟩
  | .local .tc .vmem, ⟨3, _⟩ => ⟨S1x50000, .f32⟩
  | .local .tc .vmem, ⟨4, _⟩ => ⟨S16x1, .f32⟩
  | .local .scVector .vmem, ⟨0, _⟩ => ⟨S50000, .i32⟩
  | .local .scVector .vmem, ⟨1, _⟩ => ⟨S50000, .i32⟩
  | .local .scVector .vmem, ⟨2, _⟩ => ⟨S2000, .i32⟩
  | .local .scVector .vmem, ⟨3, _⟩ => ⟨S2000, .i32⟩
  | .local .scVector .vmem, ⟨4, _⟩ => ⟨S2000, .i32⟩
  | .local .scVector .vmem, ⟨5, _⟩ => ⟨S2000, .i32⟩
  | .local .scVector .vmem, ⟨6, _⟩ => ⟨S2000, .i32⟩
  | .local .scVector .vmem, ⟨7, _⟩ => ⟨S2000, .i32⟩
  | .local .scVector .vmem, ⟨8, _⟩ => ⟨S2000, .i32⟩
  | .local .scVector .vmem, ⟨9, _⟩ => ⟨S2000, .i32⟩
  | .local .scVector .vmem, ⟨10, _⟩ => ⟨S2000, .f32⟩
  | .local .scVector .vmem, ⟨11, _⟩ => ⟨S2000, .f32⟩
  | .local .scVector .vmem, ⟨12, _⟩ => ⟨S2000, .f32⟩
  | .local .scVector .vmem, ⟨13, _⟩ => ⟨S2000, .f32⟩
  | .local .scVector .vmem, ⟨14, _⟩ => ⟨S4x16, .f32⟩
  | _, _ => ⟨S16x50000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v0_scv : Ref sig .scVector := ⟨.hbm, 7, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v3_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc2_scratch9 : Ref sig .scVector := ⟨.vmem, 9, rfl⟩
abbrev cc2_scratch10 : Ref sig .scVector := ⟨.vmem, 10, rfl⟩
abbrev cc2_scratch11 : Ref sig .scVector := ⟨.vmem, 11, rfl⟩
abbrev cc2_scratch12 : Ref sig .scVector := ⟨.vmem, 12, rfl⟩
abbrev cc2_scratch13 : Ref sig .scVector := ⟨.vmem, 13, rfl⟩
abbrev cc2_scratch14 : Ref sig .scVector := ⟨.vmem, 14, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S16x50000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x50000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S16x50000 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x50000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![2, 16], ![false, false]⟩

def k2_off1 (i : grid2.Coords) (c0_i32_10 : BitVec 32) : Fin 1 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c4_i32_3 : BitVec 32 := 4#32
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let v10 : BitVec 32 := Scalar.divsi arg1 c4_i32_3
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let arg0 : BitVec 32 := BitVec.ofNat 32 (i 0).val
  let v28 : BitVec 32 := Scalar.addi v27 arg0
  let c200000_i32 : BitVec 32 := 200000#32
  let v31 : BitVec 32 := Scalar.muli v28 c200000_i32
  let v32 : BitVec 32 := Scalar.addi v31 c0_i32_10
  ![v32.toNat]
def k2_off2 (i : grid2.Coords) : Fin 2 → Nat :=
  let c2_i32_11 : BitVec 32 := 2#32
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 32 := Scalar.muli c2_i32_11 v9
  let c0_i32_12 : BitVec 32 := 0#32
  ![v53.toNat, 0]
def k2_off3 (i : grid2.Coords) : Fin 2 → Nat :=
  let c2_i32_14 : BitVec 32 := 2#32
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v58 : BitVec 32 := Scalar.muli c2_i32_14 v9
  let c1_i32_15 : BitVec 32 := 1#32
  let v59 : BitVec 32 := Scalar.addi v58 c1_i32_15
  let c0_i32_16 : BitVec 32 := 0#32
  ![v59.toNat, 0]
@[reducible] def k2_t1_loop : Scf.Loop 32 :=
  let c0_i32_25 : BitVec 32 := 0#32
  let c25_i32 : BitVec 32 := 25#32
  let v76 : BitVec 32 := Scalar.addi c0_i32_25 c25_i32
  let c1_i32_26 : BitVec 32 := 1#32
  ⟨c0_i32_25, v76, c1_i32_26⟩
def k2_cond1 (k2_t1 : Fin k2_t1_loop.trips) : BitVec 1 :=
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c0_i32_36 : BitVec 32 := 0#32
  let v88 : BitVec 32 := Scalar.addi v87 c0_i32_36
  let c4_i32_43 : BitVec 32 := 4#32
  let v95 : BitVec 32 := Scalar.addi v88 c4_i32_43
  let c1_i32_44 : BitVec 32 := 1#32
  let v96 : BitVec 32 := Scalar.subi v95 c1_i32_44
  let c100_i32 : BitVec 32 := 100#32
  let v97 : BitVec 1 := Scalar.cmpi .slt v96 c100_i32
  let v98 : BitVec 32 := Scalar.extui v97
  let c0_i32_45 : BitVec 32 := 0#32
  let v99 : BitVec 1 := Scalar.cmpi .ne v98 c0_i32_45
  v99

def k2_off4 (i : grid2.Coords) (k2_t1 : Fin k2_t1_loop.trips) : Fin 1 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c4_i32_3 : BitVec 32 := 4#32
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let v10 : BitVec 32 := Scalar.divsi arg1 c4_i32_3
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let arg0 : BitVec 32 := BitVec.ofNat 32 (i 0).val
  let v28 : BitVec 32 := Scalar.addi v27 arg0
  let c200000_i32 : BitVec 32 := 200000#32
  let v31 : BitVec 32 := Scalar.muli v28 c200000_i32
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c0_i32_36 : BitVec 32 := 0#32
  let v88 : BitVec 32 := Scalar.addi v87 c0_i32_36
  let c4_i32_94 : BitVec 32 := 4#32
  let v144 : BitVec 32 := Scalar.addi v88 c4_i32_94
  let c1_i32_95 : BitVec 32 := 1#32
  let v145 : BitVec 32 := Scalar.subi v144 c1_i32_95
  let c2000_i32_96 : BitVec 32 := 2000#32
  let v146 : BitVec 32 := Scalar.muli v145 c2000_i32_96
  let v147 : BitVec 32 := Scalar.addi v31 v146
  ![v147.toNat]
@[reducible] def k2_t2_loop : Scf.Loop 32 :=
  let c0_i32_46 : BitVec 32 := 0#32
  let c125_i32 : BitVec 32 := 125#32
  let v100 : BitVec 32 := Scalar.addi c0_i32_46 c125_i32
  let c1_i32_47 : BitVec 32 := 1#32
  ⟨c0_i32_46, v100, c1_i32_47⟩
def k2_off5 (k2_t2 : Fin k2_t2_loop.trips) : Fin 1 → Nat :=
  let c0_i32_95 : BitVec 32 := 0#32
  let c0_i32_46 : BitVec 32 := 0#32
  let c1_i32_47 : BitVec 32 := 1#32
  let arg32 : BitVec 32 := Scf.iv c0_i32_46 c1_i32_47 k2_t2
  let c1_i32_94 : BitVec 32 := 1#32
  let v144 : BitVec 32 := Scalar.muli arg32 c1_i32_94
  let v145 : BitVec 32 := Scalar.addi c0_i32_95 v144
  let c16_i32 : BitVec 32 := 16#32
  let v146 : BitVec 32 := Scalar.muli v145 c16_i32
  let v147 : Index := Scalar.indexCast v146
  ![v147.toNat]

def k2_chk1 (v148 : IVec S16 32) : Prop :=
  (∀ a x, ((![v148] : Fin 1 → IVec S16 32) a x).toNat < S50000.size a) ∧
  (∀ a x, ((![v148] : Fin 1 → IVec S16 32) a x).toNat < S50000.size a)
theorem k2_idx1_inb : ∀ (v148 : IVec S16 32) (k2_hw1 : k2_chk1 v148), ∀ a x, ((![v148] : Fin 1 → IVec S16 32) a x).toNat < S50000.size a := fun v148 k2_hw1 => k2_hw1.1
theorem k2_idx3_inb : ∀ (v148 : IVec S16 32) (k2_hw1 : k2_chk1 v148), ∀ a x, ((![v148] : Fin 1 → IVec S16 32) a x).toNat < S50000.size a := fun v148 k2_hw1 => k2_hw1.2

def k2_chk2 (v150 : IVec S16 32) : Prop :=
  (∀ a x, ((![v150] : Fin 1 → IVec S16 32) a x).toNat < S50000.size a) ∧
  (∀ a x, ((![v150] : Fin 1 → IVec S16 32) a x).toNat < S50000.size a)
theorem k2_idx2_inb : ∀ (v150 : IVec S16 32) (k2_hw2 : k2_chk2 v150), ∀ a x, ((![v150] : Fin 1 → IVec S16 32) a x).toNat < S50000.size a := fun v150 k2_hw2 => k2_hw2.1
theorem k2_idx4_inb : ∀ (v150 : IVec S16 32) (k2_hw2 : k2_chk2 v150), ∀ a x, ((![v150] : Fin 1 → IVec S16 32) a x).toNat < S50000.size a := fun v150 k2_hw2 => k2_hw2.2
def k2_cond2 (k2_t1 : Fin k2_t1_loop.trips) : BitVec 1 :=
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c1_i32_49 : BitVec 32 := 1#32
  let v102 : BitVec 32 := Scalar.addi v87 c1_i32_49
  let c4_i32_56 : BitVec 32 := 4#32
  let v109 : BitVec 32 := Scalar.addi v102 c4_i32_56
  let c1_i32_57 : BitVec 32 := 1#32
  let v110 : BitVec 32 := Scalar.subi v109 c1_i32_57
  let c100_i32_58 : BitVec 32 := 100#32
  let v111 : BitVec 1 := Scalar.cmpi .slt v110 c100_i32_58
  let v112 : BitVec 32 := Scalar.extui v111
  let c0_i32_59 : BitVec 32 := 0#32
  let v113 : BitVec 1 := Scalar.cmpi .ne v112 c0_i32_59
  v113

def k2_off6 (i : grid2.Coords) (k2_t1 : Fin k2_t1_loop.trips) : Fin 1 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c4_i32_3 : BitVec 32 := 4#32
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let v10 : BitVec 32 := Scalar.divsi arg1 c4_i32_3
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let arg0 : BitVec 32 := BitVec.ofNat 32 (i 0).val
  let v28 : BitVec 32 := Scalar.addi v27 arg0
  let c200000_i32 : BitVec 32 := 200000#32
  let v31 : BitVec 32 := Scalar.muli v28 c200000_i32
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c1_i32_49 : BitVec 32 := 1#32
  let v102 : BitVec 32 := Scalar.addi v87 c1_i32_49
  let c4_i32_94 : BitVec 32 := 4#32
  let v144 : BitVec 32 := Scalar.addi v102 c4_i32_94
  let c1_i32_95 : BitVec 32 := 1#32
  let v145 : BitVec 32 := Scalar.subi v144 c1_i32_95
  let c2000_i32_96 : BitVec 32 := 2000#32
  let v146 : BitVec 32 := Scalar.muli v145 c2000_i32_96
  let v147 : BitVec 32 := Scalar.addi v31 v146
  ![v147.toNat]
@[reducible] def k2_t3_loop : Scf.Loop 32 :=
  let c0_i32_60 : BitVec 32 := 0#32
  let c125_i32_61 : BitVec 32 := 125#32
  let v114 : BitVec 32 := Scalar.addi c0_i32_60 c125_i32_61
  let c1_i32_62 : BitVec 32 := 1#32
  ⟨c0_i32_60, v114, c1_i32_62⟩
def k2_off7 (k2_t3 : Fin k2_t3_loop.trips) : Fin 1 → Nat :=
  let c0_i32_95 : BitVec 32 := 0#32
  let c0_i32_60 : BitVec 32 := 0#32
  let c1_i32_62 : BitVec 32 := 1#32
  let arg32 : BitVec 32 := Scf.iv c0_i32_60 c1_i32_62 k2_t3
  let c1_i32_94 : BitVec 32 := 1#32
  let v144 : BitVec 32 := Scalar.muli arg32 c1_i32_94
  let v145 : BitVec 32 := Scalar.addi c0_i32_95 v144
  let c16_i32 : BitVec 32 := 16#32
  let v146 : BitVec 32 := Scalar.muli v145 c16_i32
  let v147 : Index := Scalar.indexCast v146
  ![v147.toNat]

def k2_chk3 (v148 : IVec S16 32) : Prop :=
  (∀ a x, ((![v148] : Fin 1 → IVec S16 32) a x).toNat < S50000.size a) ∧
  (∀ a x, ((![v148] : Fin 1 → IVec S16 32) a x).toNat < S50000.size a)
theorem k2_idx5_inb : ∀ (v148 : IVec S16 32) (k2_hw3 : k2_chk3 v148), ∀ a x, ((![v148] : Fin 1 → IVec S16 32) a x).toNat < S50000.size a := fun v148 k2_hw3 => k2_hw3.1
theorem k2_idx7_inb : ∀ (v148 : IVec S16 32) (k2_hw3 : k2_chk3 v148), ∀ a x, ((![v148] : Fin 1 → IVec S16 32) a x).toNat < S50000.size a := fun v148 k2_hw3 => k2_hw3.2

def k2_chk4 (v150 : IVec S16 32) : Prop :=
  (∀ a x, ((![v150] : Fin 1 → IVec S16 32) a x).toNat < S50000.size a) ∧
  (∀ a x, ((![v150] : Fin 1 → IVec S16 32) a x).toNat < S50000.size a)
theorem k2_idx6_inb : ∀ (v150 : IVec S16 32) (k2_hw4 : k2_chk4 v150), ∀ a x, ((![v150] : Fin 1 → IVec S16 32) a x).toNat < S50000.size a := fun v150 k2_hw4 => k2_hw4.1
theorem k2_idx8_inb : ∀ (v150 : IVec S16 32) (k2_hw4 : k2_chk4 v150), ∀ a x, ((![v150] : Fin 1 → IVec S16 32) a x).toNat < S50000.size a := fun v150 k2_hw4 => k2_hw4.2
def k2_cond3 (k2_t1 : Fin k2_t1_loop.trips) : BitVec 1 :=
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c2_i32_64 : BitVec 32 := 2#32
  let v116 : BitVec 32 := Scalar.addi v87 c2_i32_64
  let c4_i32_71 : BitVec 32 := 4#32
  let v123 : BitVec 32 := Scalar.addi v116 c4_i32_71
  let c1_i32_72 : BitVec 32 := 1#32
  let v124 : BitVec 32 := Scalar.subi v123 c1_i32_72
  let c100_i32_73 : BitVec 32 := 100#32
  let v125 : BitVec 1 := Scalar.cmpi .slt v124 c100_i32_73
  let v126 : BitVec 32 := Scalar.extui v125
  let c0_i32_74 : BitVec 32 := 0#32
  let v127 : BitVec 1 := Scalar.cmpi .ne v126 c0_i32_74
  v127

def k2_off8 (i : grid2.Coords) (k2_t1 : Fin k2_t1_loop.trips) : Fin 1 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c4_i32_3 : BitVec 32 := 4#32
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let v10 : BitVec 32 := Scalar.divsi arg1 c4_i32_3
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let arg0 : BitVec 32 := BitVec.ofNat 32 (i 0).val
  let v28 : BitVec 32 := Scalar.addi v27 arg0
  let c200000_i32 : BitVec 32 := 200000#32
  let v31 : BitVec 32 := Scalar.muli v28 c200000_i32
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c2_i32_64 : BitVec 32 := 2#32
  let v116 : BitVec 32 := Scalar.addi v87 c2_i32_64
  let c4_i32_94 : BitVec 32 := 4#32
  let v144 : BitVec 32 := Scalar.addi v116 c4_i32_94
  let c1_i32_95 : BitVec 32 := 1#32
  let v145 : BitVec 32 := Scalar.subi v144 c1_i32_95
  let c2000_i32_96 : BitVec 32 := 2000#32
  let v146 : BitVec 32 := Scalar.muli v145 c2000_i32_96
  let v147 : BitVec 32 := Scalar.addi v31 v146
  ![v147.toNat]
@[reducible] def k2_t4_loop : Scf.Loop 32 :=
  let c0_i32_75 : BitVec 32 := 0#32
  let c125_i32_76 : BitVec 32 := 125#32
  let v128 : BitVec 32 := Scalar.addi c0_i32_75 c125_i32_76
  let c1_i32_77 : BitVec 32 := 1#32
  ⟨c0_i32_75, v128, c1_i32_77⟩
def k2_off9 (k2_t4 : Fin k2_t4_loop.trips) : Fin 1 → Nat :=
  let c0_i32_95 : BitVec 32 := 0#32
  let c0_i32_75 : BitVec 32 := 0#32
  let c1_i32_77 : BitVec 32 := 1#32
  let arg32 : BitVec 32 := Scf.iv c0_i32_75 c1_i32_77 k2_t4
  let c1_i32_94 : BitVec 32 := 1#32
  let v144 : BitVec 32 := Scalar.muli arg32 c1_i32_94
  let v145 : BitVec 32 := Scalar.addi c0_i32_95 v144
  let c16_i32 : BitVec 32 := 16#32
  let v146 : BitVec 32 := Scalar.muli v145 c16_i32
  let v147 : Index := Scalar.indexCast v146
  ![v147.toNat]

def k2_chk5 (v148 : IVec S16 32) : Prop :=
  (∀ a x, ((![v148] : Fin 1 → IVec S16 32) a x).toNat < S50000.size a) ∧
  (∀ a x, ((![v148] : Fin 1 → IVec S16 32) a x).toNat < S50000.size a)
theorem k2_idx9_inb : ∀ (v148 : IVec S16 32) (k2_hw5 : k2_chk5 v148), ∀ a x, ((![v148] : Fin 1 → IVec S16 32) a x).toNat < S50000.size a := fun v148 k2_hw5 => k2_hw5.1
theorem k2_idx11_inb : ∀ (v148 : IVec S16 32) (k2_hw5 : k2_chk5 v148), ∀ a x, ((![v148] : Fin 1 → IVec S16 32) a x).toNat < S50000.size a := fun v148 k2_hw5 => k2_hw5.2

def k2_chk6 (v150 : IVec S16 32) : Prop :=
  (∀ a x, ((![v150] : Fin 1 → IVec S16 32) a x).toNat < S50000.size a) ∧
  (∀ a x, ((![v150] : Fin 1 → IVec S16 32) a x).toNat < S50000.size a)
theorem k2_idx10_inb : ∀ (v150 : IVec S16 32) (k2_hw6 : k2_chk6 v150), ∀ a x, ((![v150] : Fin 1 → IVec S16 32) a x).toNat < S50000.size a := fun v150 k2_hw6 => k2_hw6.1
theorem k2_idx12_inb : ∀ (v150 : IVec S16 32) (k2_hw6 : k2_chk6 v150), ∀ a x, ((![v150] : Fin 1 → IVec S16 32) a x).toNat < S50000.size a := fun v150 k2_hw6 => k2_hw6.2
def k2_cond4 (k2_t1 : Fin k2_t1_loop.trips) : BitVec 1 :=
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c3_i32_79 : BitVec 32 := 3#32
  let v130 : BitVec 32 := Scalar.addi v87 c3_i32_79
  let c4_i32_86 : BitVec 32 := 4#32
  let v137 : BitVec 32 := Scalar.addi v130 c4_i32_86
  let c1_i32_87 : BitVec 32 := 1#32
  let v138 : BitVec 32 := Scalar.subi v137 c1_i32_87
  let c100_i32_88 : BitVec 32 := 100#32
  let v139 : BitVec 1 := Scalar.cmpi .slt v138 c100_i32_88
  let v140 : BitVec 32 := Scalar.extui v139
  let c0_i32_89 : BitVec 32 := 0#32
  let v141 : BitVec 1 := Scalar.cmpi .ne v140 c0_i32_89
  v141

def k2_off10 (i : grid2.Coords) (k2_t1 : Fin k2_t1_loop.trips) : Fin 1 → Nat :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c4_i32_3 : BitVec 32 := 4#32
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let v10 : BitVec 32 := Scalar.divsi arg1 c4_i32_3
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let arg0 : BitVec 32 := BitVec.ofNat 32 (i 0).val
  let v28 : BitVec 32 := Scalar.addi v27 arg0
  let c200000_i32 : BitVec 32 := 200000#32
  let v31 : BitVec 32 := Scalar.muli v28 c200000_i32
  let c0_i32_35 : BitVec 32 := 0#32
  let c0_i32_25 : BitVec 32 := 0#32
  let c1_i32_26 : BitVec 32 := 1#32
  let arg27 : BitVec 32 := Scf.iv c0_i32_25 c1_i32_26 k2_t1
  let c4_i32_34 : BitVec 32 := 4#32
  let v86 : BitVec 32 := Scalar.muli arg27 c4_i32_34
  let v87 : BitVec 32 := Scalar.addi c0_i32_35 v86
  let c3_i32_79 : BitVec 32 := 3#32
  let v130 : BitVec 32 := Scalar.addi v87 c3_i32_79
  let c4_i32_94 : BitVec 32 := 4#32
  let v144 : BitVec 32 := Scalar.addi v130 c4_i32_94
  let c1_i32_95 : BitVec 32 := 1#32
  let v145 : BitVec 32 := Scalar.subi v144 c1_i32_95
  let c2000_i32_96 : BitVec 32 := 2000#32
  let v146 : BitVec 32 := Scalar.muli v145 c2000_i32_96
  let v147 : BitVec 32 := Scalar.addi v31 v146
  ![v147.toNat]
@[reducible] def k2_t5_loop : Scf.Loop 32 :=
  let c0_i32_90 : BitVec 32 := 0#32
  let c125_i32_91 : BitVec 32 := 125#32
  let v142 : BitVec 32 := Scalar.addi c0_i32_90 c125_i32_91
  let c1_i32_92 : BitVec 32 := 1#32
  ⟨c0_i32_90, v142, c1_i32_92⟩
def k2_off11 (k2_t5 : Fin k2_t5_loop.trips) : Fin 1 → Nat :=
  let c0_i32_95 : BitVec 32 := 0#32
  let c0_i32_90 : BitVec 32 := 0#32
  let c1_i32_92 : BitVec 32 := 1#32
  let arg32 : BitVec 32 := Scf.iv c0_i32_90 c1_i32_92 k2_t5
  let c1_i32_94 : BitVec 32 := 1#32
  let v144 : BitVec 32 := Scalar.muli arg32 c1_i32_94
  let v145 : BitVec 32 := Scalar.addi c0_i32_95 v144
  let c16_i32 : BitVec 32 := 16#32
  let v146 : BitVec 32 := Scalar.muli v145 c16_i32
  let v147 : Index := Scalar.indexCast v146
  ![v147.toNat]

def k2_chk7 (v148 : IVec S16 32) : Prop :=
  (∀ a x, ((![v148] : Fin 1 → IVec S16 32) a x).toNat < S50000.size a) ∧
  (∀ a x, ((![v148] : Fin 1 → IVec S16 32) a x).toNat < S50000.size a)
theorem k2_idx13_inb : ∀ (v148 : IVec S16 32) (k2_hw7 : k2_chk7 v148), ∀ a x, ((![v148] : Fin 1 → IVec S16 32) a x).toNat < S50000.size a := fun v148 k2_hw7 => k2_hw7.1
theorem k2_idx15_inb : ∀ (v148 : IVec S16 32) (k2_hw7 : k2_chk7 v148), ∀ a x, ((![v148] : Fin 1 → IVec S16 32) a x).toNat < S50000.size a := fun v148 k2_hw7 => k2_hw7.2

def k2_chk8 (v150 : IVec S16 32) : Prop :=
  (∀ a x, ((![v150] : Fin 1 → IVec S16 32) a x).toNat < S50000.size a) ∧
  (∀ a x, ((![v150] : Fin 1 → IVec S16 32) a x).toNat < S50000.size a)
theorem k2_idx14_inb : ∀ (v150 : IVec S16 32) (k2_hw8 : k2_chk8 v150), ∀ a x, ((![v150] : Fin 1 → IVec S16 32) a x).toNat < S50000.size a := fun v150 k2_hw8 => k2_hw8.1
theorem k2_idx16_inb : ∀ (v150 : IVec S16 32) (k2_hw8 : k2_chk8 v150), ∀ a x, ((![v150] : Fin 1 → IVec S16 32) a x).toNat < S50000.size a := fun v150 k2_hw8 => k2_hw8.2
def k2_off12 (i : grid2.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v29 : BitVec 32 := Scalar.muli v9 c8_i32
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c4_i32_3 : BitVec 32 := 4#32
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let v10 : BitVec 32 := Scalar.divsi arg1 c4_i32_3
  let c1_i32_9 : BitVec 32 := 1#32
  let v25 : BitVec 32 := Scalar.subi v10 c1_i32_9
  let v26 : BitVec 32 := Scalar.select v24 v25 v10
  let c2_i32 : BitVec 32 := 2#32
  let v27 : BitVec 32 := Scalar.muli v26 c2_i32
  let arg0 : BitVec 32 := BitVec.ofNat 32 (i 0).val
  let v28 : BitVec 32 := Scalar.addi v27 arg0
  let v30 : BitVec 32 := Scalar.addi v29 v28
  let c0_i32_34_r0 : BitVec 32 := 0#32
  let c0_i32_35_r0 : BitVec 32 := 0#32
  ![v30.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x50000 : Shape := ⟨2, ![16, 50000]⟩
abbrev S50000 : Shape := ⟨1, ![50000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S16x1600000 : Shape := ⟨2, ![16, 1600000]⟩
abbrev S16x1650000 : Shape := ⟨2, ![16, 1650000]⟩
abbrev S1650000 : Shape := ⟨1, ![1650000]⟩
abbrev S16 : Shape := ⟨1, ![16]⟩

abbrev nBuf : Space → Nat
  | .hbm => 82
  | .vmem => 0
  | .smem => 0
  | _ => 0

abbrev bufTy : (tb : Table) → Fin (tcTables nBuf tb) → BufTy
  | .hbm, ⟨0, _⟩ => ⟨S16x50000, .i32⟩
  | .hbm, ⟨1, _⟩ => ⟨S50000, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S16x50000, .i32⟩
  | .hbm, ⟨7, _⟩ => ⟨S16x50000, .i32⟩
  | .hbm, ⟨8, _⟩ => ⟨S_, .i32⟩
  | .hbm, ⟨9, _⟩ => ⟨S16x50000, .i32⟩
  | .hbm, ⟨10, _⟩ => ⟨S16x50000, .i32⟩
  | .hbm, ⟨11, _⟩ => ⟨S_, .i32⟩
  | .hbm, ⟨12, _⟩ => ⟨S16x50000, .i32⟩
  | .hbm, ⟨13, _⟩ => ⟨S16x50000, .i1⟩
  | .hbm, ⟨14, _⟩ => ⟨S_, .i32⟩
  | .hbm, ⟨15, _⟩ => ⟨S16x50000, .i32⟩
  | .hbm, ⟨16, _⟩ => ⟨S16x50000, .i1⟩
  | .hbm, ⟨17, _⟩ => ⟨S_, .i32⟩
  | .hbm, ⟨18, _⟩ => ⟨S16x50000, .i32⟩
  | .hbm, ⟨19, _⟩ => ⟨S16x50000, .i32⟩
  | .hbm, ⟨20, _⟩ => ⟨S_, .i32⟩
  | .hbm, ⟨21, _⟩ => ⟨S16x50000, .i32⟩
  | .hbm, ⟨22, _⟩ => ⟨S16x50000, .i1⟩
  | .hbm, ⟨23, _⟩ => ⟨S16x50000, .i1⟩
  | .hbm, ⟨24, _⟩ => ⟨S16x50000, .i1⟩
  | .hbm, ⟨25, _⟩ => ⟨S16x50000, .f32⟩
  | .hbm, ⟨26, _⟩ => ⟨S16x50000, .i32⟩
  | .hbm, ⟨27, _⟩ => ⟨S16x50000, .i32⟩
  | .hbm, ⟨28, _⟩ => ⟨S_, .i32⟩
  | .hbm, ⟨29, _⟩ => ⟨S16x50000, .i32⟩
  | .hbm, ⟨30, _⟩ => ⟨S16x50000, .i32⟩
  | .hbm, ⟨31, _⟩ => ⟨S16x50000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S16x1600000, .f32⟩
  | .hbm, ⟨51, _⟩ => ⟨S16x1600000, .i1⟩
  | .hbm, ⟨52, _⟩ => ⟨S_, .f32⟩
  | .hbm, ⟨53, _⟩ => ⟨S16x1600000, .f32⟩
  | .hbm, ⟨54, _⟩ => ⟨S16x1600000, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1, .i32⟩
  | .hbm, ⟨64, _⟩ => ⟨S_, .i32⟩
  | .hbm, ⟨65, _⟩ => ⟨S1600000x1, .i32⟩
  | .hbm, ⟨66, _⟩ => ⟨S1600000x1, .i1⟩
  | .hbm, ⟨67, _⟩ => ⟨S1x1, .i32⟩
  | .hbm, ⟨68, _⟩ => ⟨S1600000x1, .i32⟩
  | .hbm, ⟨69, _⟩ => ⟨S1600000x1, .i1⟩
  | .hbm, ⟨70, _⟩ => ⟨S1600000x1, .i1⟩
  | .hbm, ⟨71, _⟩ => ⟨S_, .i1⟩
  | .hbm, ⟨72, _⟩ => ⟨S1600000, .i1⟩
  | .hbm, ⟨73, _⟩ => ⟨S16x1600000, .f32⟩
  | .hbm, ⟨74, _⟩ => ⟨S16x1600000, .i1⟩
  | .hbm, ⟨75, _⟩ => ⟨S_, .f32⟩
  | .hbm, ⟨76, _⟩ => ⟨S16x1600000, .f32⟩
  | .hbm, ⟨77, _⟩ => ⟨S16x1600000, .f32⟩
  | .hbm, ⟨78, _⟩ => ⟨S16x1600000, .f32⟩
  | .hbm, ⟨79, _⟩ => ⟨S16x1650000, .f32⟩
  | .hbm, ⟨80, _⟩ => ⟨S1650000, .f32⟩
  | .hbm, ⟨81, _⟩ => ⟨S16, .f32⟩
  | _, _ => ⟨S16x50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v20 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩

abbrev nD : Nat := 1
abbrev τ : Topo := Topo.v7x

variable {F : FTy → Type} [FloatOps F]
-- ==== Proof.Prog.lean ====
/-
  The SparseCore kernel's text in a shorter spelling: one definition for each fragment that the printed program repeats
  (the three copies of a chunk, the three waits for them, the sixteen edges of a group), and the printed functions shown
  equal to programs written with those fragments.
-/
module

public import proofs.«01_k».proof.Defs
public import proofs.«01_k».proof.Proof.Gen.KernelIdeal
public import proofs.«01_k».proof.Proof.Gen.KernelIdeal.Skeleton

@[expose] public section

noncomputable section

namespace Cert.Proof.Ising

open Cert.KernelIdeal Cert.KernelIdeal.Gen
open Idealize.ShloMosaic Idealize.SL.Sem

variable {F : FTy → Type} [FloatOps F]

/-- The operations of tile `i`'s thread. -/
abbrev TE (F : FTy → Type) (i : grid2.Coords) : Type → Type := TpuEff nD τ sig (Elt F) Λ₀ (.scVector ((i 0).castLE hcore2) ((i 1).castLE hsub2))

/-- One buffer of the ring: two index rows, one row of couplings, and the semaphore of the copies into them. -/
structure Slot where
  bi : Memref sig .scVector .vmem S2000 .i32
  hi : bi.IsWhole
  bj : Memref sig .scVector .vmem S2000 .i32
  hj : bj.IsWhole
  bw : Memref sig .scVector .vmem S2000 .f32
  hw : bw.IsWhole
  sem : DmaSems sig S_

/-- The three edge arrays: first ends, second ends, couplings. -/
structure Edges where
  aI : Memref sig .scVector .hbm S1600000 .i32
  aJ : Memref sig .scVector .hbm S1600000 .i32
  aW : Memref sig .scVector .hbm S1600000 .f32

/-- The vectors a tile adds into: four rows of sixteen lanes. -/
abbrev Acc (F : FTy → Type) : Type := FVec F S16 .f32 × FVec F S16 .f32 × FVec F S16 .f32 × FVec F S16 .f32

/-- 2000 elements of an edge array from `off`. -/
abbrev part {e : EltTy} (m : Memref sig .scVector .hbm S1600000 e) (off : Fin 1 → ℕ) (inb : ∀ a, off a + S2000.size a ≤ S1600000.size a) :
    Memref sig .scVector .hbm S2000 e := m.slice (Rect.unit (s := S1600000) off S2000.size inb) (fun _ => rfl)

/-- The three copies of a chunk into a buffer of the ring. -/
def fetch3 (i : grid2.Coords) (E : Edges) (S : Slot) (off : Fin 1 → ℕ) (inb : ∀ a, off a + S2000.size a ≤ S1600000.size a) : Prog (TE F i) PUnit := do
  Prog.lift (.enqueueDma (part E.aI off inb) (.here S.bi) (.dma S.sem.sem) (View.wordExact_bits rfl) S.hi.wordExact ⟨Or.inl rfl, trivial⟩)
  Prog.lift (.enqueueDma (part E.aJ off inb) (.here S.bj) (.dma S.sem.sem) (View.wordExact_bits rfl) S.hj.wordExact ⟨Or.inl rfl, trivial⟩)
  Prog.lift (.enqueueDma (part E.aW off inb) (.here S.bw) (.dma S.sem.sem) (View.wordExact_bits rfl) S.hw.wordExact ⟨Or.inl rfl, trivial⟩)

/-- The three copies under a condition, then the rest `k` of the program either way. -/
def fetchIf (i : grid2.Coords) (E : Edges) (S : Slot) {α : Type} (c : BitVec 1) (off : Fin 1 → ℕ) (inb : c = 1#1 → ∀ a, off a + S2000.size a ≤ S1600000.size a)
    (k : PUnit → Prog (TE F i) α) : Prog (TE F i) α :=
  if h : c = 1#1 then fetch3 i E S off (inb h) >>= k else k ⟨⟩

/-- The three waits for a chunk. -/
def wait3 (i : grid2.Coords) (E : Edges) (S : Slot) : Prog (TE F i) PUnit := do
  Prog.lift (.waitDma2 S.sem.sem (part E.aI ![0] inb_S1600000_S2000_0) S.bi (View.wordExact_bits rfl) S.hi.wordExact)
  Prog.lift (.waitDma2 S.sem.sem (part E.aJ ![0] inb_S1600000_S2000_0) S.bj (View.wordExact_bits rfl) S.hj.wordExact)
  Prog.lift (.waitDma2 S.sem.sem (part E.aW ![0] inb_S1600000_S2000_0) S.bw (View.wordExact_bits rfl) S.hw.wordExact)

/-- What follows conditional copies may be moved into their continuation. -/
theorem fetchIf_bind (i : grid2.Coords) (E : Edges) (S : Slot) {α β : Type} (c : BitVec 1) (off : Fin 1 → ℕ) (inb : c = 1#1 → ∀ a, off a + S2000.size a ≤ S1600000.size a)
    (k : PUnit → Prog (TE F i) α) (f : α → Prog (TE F i) β) :
    fetchIf i E S c off inb k >>= f = fetchIf i E S c off inb (fun x => k x >>= f) := by
  unfold fetchIf; split
  · rw [bind_assoc]
  · rfl

/-- Sixteen consecutive elements of a buffer of the ring. -/
abbrev ld16 (i : grid2.Coords) {e : EltTy} (m : Memref sig .scVector .vmem S2000 e) (off : Fin 1 → ℕ) (inb : ∀ a, off a + S16.size a ≤ S2000.size a) :
    Prog (TE F i) (Vec F S16 e) :=
  Prog.lift (.load m (Rect.unit (s := S2000) off S16.size inb).toLoadRect (View.loadsAt_vmem h_S16))

/-- One group of sixteen edges: their ends and couplings loaded, the ends checked to be spins, the two packed rows read
    at them, the four products added. -/
def group (i : grid2.Coords) (pk0 pk1 : Memref sig .scVector .vmem S50000 .i32) (S : Slot) (off : Fin 1 → ℕ) (inb : ∀ a, off a + S16.size a ≤ S2000.size a)
    (acc : Acc F) : Prog (TE F i) (Acc F) := do
  let vi : Vec F S16 .i32 ← ld16 i S.bi off inb
  have h1 : k2_chk1 vi := (← Prog.lift (TpuEff.assume (k2_chk1 vi) (k2_chk1.dec vi))).down
  let vj : Vec F S16 .i32 ← ld16 i S.bj off inb
  have h2 : k2_chk2 vj := (← Prog.lift (TpuEff.assume (k2_chk2 vj) (k2_chk2.dec vj))).down
  let w : Vec F S16 .f32 ← ld16 i S.bw off inb
  let a : Vec F S16 .i32 ← SparseCore.vectorLoadIdx pk0 ![vi] (k2_idx1_inb vi h1) (View.loads_vmem h_S50000)
  let b : Vec F S16 .i32 ← SparseCore.vectorLoadIdx pk0 ![vj] (k2_idx2_inb vj h2) (View.loads_vmem h_S50000)
  let a' : Vec F S16 .i32 ← SparseCore.vectorLoadIdx pk1 ![vi] (k2_idx3_inb vi h1) (View.loads_vmem h_S50000)
  let b' : Vec F S16 .i32 ← SparseCore.vectorLoadIdx pk1 ![vj] (k2_idx4_inb vj h2) (View.loads_vmem h_S50000)
  pure (k2_pay3 acc.1 w a b, k2_pay4 acc.2.1 w a b, k2_pay5 acc.2.2.1 w a' b', k2_pay23 acc.2.2.2 w (k2_pay6 a') (k2_pay7 b'))

/-- A trip of the ring: for each buffer in turn the waits for its chunk, the next copies, the groups of the chunk. -/
def trip (i : grid2.Coords) (pk0 pk1 : Memref sig .scVector .vmem S50000 .i32) (E : Edges) (S0 S1 S2 S3 : Slot) (t : Fin k2_t1_loop.trips) (a : Acc F) : Prog (TE F i) (Acc F) :=
  wait3 i E S0 >>= fun _ => fetchIf i E S3 (k2_cond1 t) (k2_off4 i t) (k2_off4_inb i t) fun _ =>
  Scf.Loop.for k2_t2_loop k2_t2_ok a (fun k acc => group i pk0 pk1 S0 (k2_off5 k) (k2_off5_inb k) acc) >>= fun a =>
  wait3 i E S1 >>= fun _ => fetchIf i E S0 (k2_cond2 t) (k2_off6 i t) (k2_off6_inb i t) fun _ =>
  Scf.Loop.for k2_t3_loop k2_t3_ok a (fun k acc => group i pk0 pk1 S1 (k2_off7 k) (k2_off7_inb k) acc) >>= fun a =>
  wait3 i E S2 >>= fun _ => fetchIf i E S1 (k2_cond3 t) (k2_off8 i t) (k2_off8_inb i t) fun _ =>
  Scf.Loop.for k2_t4_loop k2_t4_ok a (fun k acc => group i pk0 pk1 S2 (k2_off9 k) (k2_off9_inb k) acc) >>= fun a =>
  wait3 i E S3 >>= fun _ => fetchIf i E S2 (k2_cond4 t) (k2_off10 i t) (k2_off10_inb i t) fun _ =>
  Scf.Loop.for k2_t5_loop k2_t5_ok a (fun k acc => group i pk0 pk1 S3 (k2_off11 k) (k2_off11_inb k) acc)

/-- One row of the packed spins. -/
abbrev prow (m : Memref sig .scVector .hbm S8x50000 .i32) (off : Fin 2 → ℕ) (inb : ∀ a, off a + S1x50000.size a ≤ S8x50000.size a) : Memref sig .scVector .hbm S50000 .i32 :=
  (m.slice (Rect.unit (s := S8x50000) off S1x50000.size inb) (fun _ => rfl)).squeeze S50000 squeezes_S1x50000_S50000

/-- A tile's rows of the partial sums. -/
abbrev orow (m : Memref sig .scVector .hbm S32x4x16 .f32) (off : Fin 3 → ℕ) (inb : ∀ a, off a + S1x4x16.size a ≤ S32x4x16.size a) : Memref sig .scVector .hbm S4x16 .f32 :=
  (m.slice (Rect.unit (s := S32x4x16) off S1x4x16.size inb) (fun _ => rfl)).squeeze S4x16 squeezes_S1x4x16_S4x16

/-- One accumulator stored as a row of the tile's output buffer (after the load that a store carries along). -/
def put (i : grid2.Coords) (ov : Memref sig .scVector .vmem S4x16 .f32) (off : Fin 2 → ℕ) (inb : ∀ a, off a + S1x16.size a ≤ S4x16.size a) (v : FVec F S16 .f32) : Prog (TE F i) PUnit := do
  let _ : Vec F S1x16 .f32 ← Prog.lift (.load ov (Rect.unit (s := S4x16) off S1x16.size inb).toLoadRect (View.loadsAt_vmem h_S1x16))
  Prog.lift (.store ov (Rect.unit (s := S4x16) off S1x16.size inb) (shapeCast S1x16 v shapeCasts_S16_S1x16) Finset.univ (View.stores_vmem_bits_univ h_S1x16 rfl) (.inl rfl))

/-- What a tile does before its loop: three chunks started, its two rows copied and waited for. -/
def prologue (i : grid2.Coords) (xp : Memref sig .scVector .hbm S8x50000 .i32) (pk0 : Memref sig .scVector .vmem S50000 .i32) (h0 : pk0.IsWhole) (pk1 : Memref sig .scVector .vmem S50000 .i32) (h1 : pk1.IsWhole)
    (rs : DmaSems sig S_) (E : Edges) (S0 S1 S2 : Slot) : Prog (TE F i) PUnit := do
  fetch3 i E S0 (k2_off1 i 0#32) (k2_off1_inb i 0)
  fetch3 i E S1 (k2_off1 i 2000#32) (k2_off1_inb i 1)
  fetch3 i E S2 (k2_off1 i 4000#32) (k2_off1_inb i 2)
  Prog.lift (.enqueueDma (prow xp (k2_off2 i) (k2_off2_inb i)) (.here pk0) (.dma rs.sem) ((View.wordExact_bits rfl).reshape _ _) h0.wordExact ⟨Or.inl rfl, trivial⟩)
  Prog.lift (.enqueueDma (prow xp (k2_off3 i) (k2_off3_inb i)) (.here pk1) (.dma rs.sem) ((View.wordExact_bits rfl).reshape _ _) h1.wordExact ⟨Or.inl rfl, trivial⟩)
  Prog.lift (.waitDma2 rs.sem (prow xp (k2_off2 i) (k2_off2_inb i)) pk0 ((View.wordExact_bits rfl).reshape _ _) h0.wordExact)
  Prog.lift (.waitDma2 rs.sem (prow xp (k2_off3 i) (k2_off3_inb i)) pk1 ((View.wordExact_bits rfl).reshape _ _) h1.wordExact)

/-- What it does after: the four accumulators stored and copied to its rows of the result. -/
def epilogue (i : grid2.Coords) (out : Memref sig .scVector .hbm S32x4x16 .f32) (ov : Memref sig .scVector .vmem S4x16 .f32) (hov : ov.IsWhole) (os : DmaSems sig S_) (a : Acc F) : Prog (TE F i) PUnit := do
  put i ov ![0, 0] inb_S4x16_S1x16_0_0 a.1
  put i ov ![1, 0] inb_S4x16_S1x16_1_0 a.2.1
  put i ov ![2, 0] inb_S4x16_S1x16_2_0 a.2.2.1
  put i ov ![3, 0] inb_S4x16_S1x16_3_0 a.2.2.2
  Prog.lift (.enqueueDma ov (.here (orow out (k2_off12 i) (k2_off12_inb i))) (.dma os.sem) hov.wordExact ((View.wordExact_bits rfl).reshape _ _) ⟨Or.inl rfl, trivial⟩)
  Prog.lift (.waitDma2 os.sem ov (orow out (k2_off12 i) (k2_off12_inb i)) hov.wordExact ((View.wordExact_bits rfl).reshape _ _))

/-- Four rows of zeros. -/
abbrev acc0 : Acc F := (k2_pay1, k2_pay1, k2_pay1, k2_pay1)

/-! ## The printed functions -/

section Printed

variable (i : grid2.Coords) (arg2 : Memref sig .scVector .hbm S8x50000 .i32) (harg2 : arg2.IsWhole) (arg3 : Memref sig .scVector .hbm S1600000 .f32) (harg3 : arg3.IsWhole) (arg4 : Memref sig .scVector .hbm S1600000 .i32) (harg4 : arg4.IsWhole) (arg5 : Memref sig .scVector .hbm S1600000 .i32) (harg5 : arg5.IsWhole) (arg6 : Memref sig .scVector .hbm S32x4x16 .f32) (harg6 : arg6.IsWhole) (arg7 : Memref sig .scVector .vmem S50000 .i32) (harg7 : arg7.IsWhole) (arg8 : Memref sig .scVector .vmem S50000 .i32) (harg8 : arg8.IsWhole) (arg9 : Memref sig .scVector .vmem S2000 .i32) (harg9 : arg9.IsWhole) (arg10 : Memref sig .scVector .vmem S2000 .i32) (harg10 : arg10.IsWhole) (arg11 : Memref sig .scVector .vmem S2000 .i32) (harg11 : arg11.IsWhole) (arg12 : Memref sig .scVector .vmem S2000 .i32) (harg12 : arg12.IsWhole) (arg13 : Memref sig .scVector .vmem S2000 .i32) (harg13 : arg13.IsWhole) (arg14 : Memref sig .scVector .vmem S2000 .i32) (harg14 : arg14.IsWhole) (arg15 : Memref sig .scVector .vmem S2000 .i32) (harg15 : arg15.IsWhole) (arg16 : Memref sig .scVector .vmem S2000 .i32) (harg16 : arg16.IsWhole) (arg17 : Memref sig .scVector .vmem S2000 .f32) (harg17 : arg17.IsWhole) (arg18 : Memref sig .scVector .vmem S2000 .f32) (harg18 : arg18.IsWhole) (arg19 : Memref sig .scVector .vmem S2000 .f32) (harg19 : arg19.IsWhole) (arg20 : Memref sig .scVector .vmem S2000 .f32) (harg20 : arg20.IsWhole) (arg21 : Memref sig .scVector .vmem S4x16 .f32) (harg21 : arg21.IsWhole) (arg22 arg23 arg24 arg25 arg26 v86_r0 : DmaSems sig S_)

set_option maxRecDepth 65536 in
/-- A trip of the inner loop over buffer 0 is one group of that buffer. -/
theorem t2_body_eq (v31 c0_i32_25 c1_i32_26 : BitVec 32) (k2_t1 : Fin k2_t1_loop.trips) (arg28 arg29 arg30 arg31 : FVec F S16 .f32) :
    k2_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 c0_i32_25 c1_i32_26 k2_t1 arg28 arg29 arg30 arg31
      = fun k acc => group i arg7 arg8 ⟨arg9, harg9, arg13, harg13, arg17, harg17, arg22⟩ (k2_off5 k) (k2_off5_inb k) acc := by
  unfold k2_t2_body; simp only [k2_part1_eq_skeleton]; rfl

set_option maxRecDepth 65536 in
/-- A trip of the inner loop over buffer 1 is one group of that buffer. -/
theorem t3_body_eq (v31 : BitVec 32) (k2_t1 : Fin k2_t1_loop.trips) (v87 : BitVec 32) (v101_0 v101_1 v101_2 v101_3 : FVec F S16 .f32) (v102 v110 c100_i32_58 : BitVec 32) :
    k2_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 k2_t1 v87 v101_0 v101_1 v101_2 v101_3 v102 v110 c100_i32_58
      = fun k acc => group i arg7 arg8 ⟨arg10, harg10, arg14, harg14, arg18, harg18, arg23⟩ (k2_off7 k) (k2_off7_inb k) acc := by
  unfold k2_t3_body; simp only [k2_part2_eq_skeleton]; rfl

set_option maxRecDepth 65536 in
/-- A trip of the inner loop over buffer 2 is one group of that buffer. -/
theorem t4_body_eq (v31 : BitVec 32) (k2_t1 : Fin k2_t1_loop.trips) (v87 : BitVec 32) (v101_0 v101_1 v101_2 v101_3 : FVec F S16 .f32) (v102 v110 c100_i32_58 : BitVec 32) :
    k2_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 k2_t1 v87 v101_0 v101_1 v101_2 v101_3 v102 v110 c100_i32_58
      = fun k acc => group i arg7 arg8 ⟨arg11, harg11, arg15, harg15, arg19, harg19, arg24⟩ (k2_off9 k) (k2_off9_inb k) acc := by
  unfold k2_t4_body; simp only [k2_part3_eq_skeleton]; rfl

set_option maxRecDepth 65536 in
/-- A trip of the inner loop over buffer 3 is one group of that buffer. -/
theorem t5_body_eq  :
    k2_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0
      = fun k acc => group i arg7 arg8 ⟨arg12, harg12, arg16, harg16, arg20, harg20, arg25⟩ (k2_off11 k) (k2_off11_inb k) acc := by
  unfold k2_t5_body; simp only [k2_part4_eq_skeleton]; rfl

/-- The printed first half of a trip. -/
theorem part5_eq (v31 c0 c1 : BitVec 32) (t : Fin k2_t1_loop.trips) (a0 a1 a2 a3 : FVec F S16 .f32) :
    ∃ w : BitVec 32 × BitVec 32 × BitVec 32,
      k2_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 c0 c1 t a0 a1 a2 a3
        = wait3 i ⟨arg4, arg5, arg3⟩ ⟨arg9, harg9, arg13, harg13, arg17, harg17, arg22⟩ >>= fun _ => fetchIf i ⟨arg4, arg5, arg3⟩ ⟨arg12, harg12, arg16, harg16, arg20, harg20, arg25⟩ (k2_cond1 t) (k2_off4 i t) (k2_off4_inb i t) fun _ =>
          Scf.Loop.for k2_t2_loop k2_t2_ok (a0, a1, a2, a3) (fun k acc => group i arg7 arg8 ⟨arg9, harg9, arg13, harg13, arg17, harg17, arg22⟩ (k2_off5 k) (k2_off5_inb k) acc) >>= fun a =>
          wait3 i ⟨arg4, arg5, arg3⟩ ⟨arg10, harg10, arg14, harg14, arg18, harg18, arg23⟩ >>= fun _ => pure ⟨w.1, a.1, a.2.1, a.2.2.1, a.2.2.2, w.2.1, w.2.2, 100#32⟩ := by
  rw [k2_part5_eq_skeleton]; unfold k2_part5_skel; simp only [t2_body_eq]
  exact ⟨(_, _, _), rfl⟩

/-- The printed second half, to the second wait for the last buffer. -/
theorem part6_eq (v31 : BitVec 32) (t : Fin k2_t1_loop.trips) (v87 : BitVec 32) (a0 a1 a2 a3 : FVec F S16 .f32) (v102 v110 v58 : BitVec 32) :
    ∃ w : BitVec 32, ∀ (α : Type) (f : _ → Prog (TE F i) α),
      (k2_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 t v87 a0 a1 a2 a3 v102 v110 v58 >>= fun r => Prog.lift (.waitDma2 arg25.sem (part arg3 ![0] inb_S1600000_S2000_0) arg20 (View.wordExact_bits rfl) harg20.wordExact) >>= fun _ => f r)
        = fetchIf i ⟨arg4, arg5, arg3⟩ ⟨arg9, harg9, arg13, harg13, arg17, harg17, arg22⟩ (k2_cond2 t) (k2_off6 i t) (k2_off6_inb i t) fun _ =>
          Scf.Loop.for k2_t3_loop k2_t3_ok (a0, a1, a2, a3) (fun k acc => group i arg7 arg8 ⟨arg10, harg10, arg14, harg14, arg18, harg18, arg23⟩ (k2_off7 k) (k2_off7_inb k) acc) >>= fun a =>
          wait3 i ⟨arg4, arg5, arg3⟩ ⟨arg11, harg11, arg15, harg15, arg19, harg19, arg24⟩ >>= fun _ => fetchIf i ⟨arg4, arg5, arg3⟩ ⟨arg10, harg10, arg14, harg14, arg18, harg18, arg23⟩ (k2_cond3 t) (k2_off8 i t) (k2_off8_inb i t) fun _ =>
          Scf.Loop.for k2_t4_loop k2_t4_ok a (fun k acc => group i arg7 arg8 ⟨arg11, harg11, arg15, harg15, arg19, harg19, arg24⟩ (k2_off9 k) (k2_off9_inb k) acc) >>= fun a =>
          wait3 i ⟨arg4, arg5, arg3⟩ ⟨arg12, harg12, arg16, harg16, arg20, harg20, arg25⟩ >>= fun _ => f ⟨a.1, a.2.1, a.2.2.1, a.2.2.2, w⟩ := by
  refine ⟨Scalar.addi v87 3#32, fun α f => ?_⟩
  have e : k2_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 t v87 a0 a1 a2 a3 v102 v110 v58
      = fetchIf i ⟨arg4, arg5, arg3⟩ ⟨arg9, harg9, arg13, harg13, arg17, harg17, arg22⟩ (k2_cond2 t) (k2_off6 i t) (k2_off6_inb i t) fun _ =>
          Scf.Loop.for k2_t3_loop k2_t3_ok (a0, a1, a2, a3) (fun k acc => group i arg7 arg8 ⟨arg10, harg10, arg14, harg14, arg18, harg18, arg23⟩ (k2_off7 k) (k2_off7_inb k) acc) >>= fun a =>
          wait3 i ⟨arg4, arg5, arg3⟩ ⟨arg11, harg11, arg15, harg15, arg19, harg19, arg24⟩ >>= fun _ => fetchIf i ⟨arg4, arg5, arg3⟩ ⟨arg10, harg10, arg14, harg14, arg18, harg18, arg23⟩ (k2_cond3 t) (k2_off8 i t) (k2_off8_inb i t) fun _ =>
          Scf.Loop.for k2_t4_loop k2_t4_ok a (fun k acc => group i arg7 arg8 ⟨arg11, harg11, arg15, harg15, arg19, harg19, arg24⟩ (k2_off9 k) (k2_off9_inb k) acc) >>= fun a =>
          Prog.lift (.waitDma2 arg25.sem (part arg4 ![0] inb_S1600000_S2000_0) arg12 (View.wordExact_bits rfl) harg12.wordExact) >>= fun _ =>
          Prog.lift (.waitDma2 arg25.sem (part arg5 ![0] inb_S1600000_S2000_0) arg16 (View.wordExact_bits rfl) harg16.wordExact) >>= fun _ =>
          pure ⟨a.1, a.2.1, a.2.2.1, a.2.2.2, Scalar.addi v87 3#32⟩ := by
    rw [k2_part6_eq_skeleton]; unfold k2_part6_skel; simp only [t3_body_eq, t4_body_eq]
    rfl
  rw [e]; simp only [fetchIf_bind, bind_assoc, pure_bind, wait3]

/-- The printed trip. -/
theorem t1_body_eq (v31 : BitVec 32) :
    k2_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 = trip i arg7 arg8 ⟨arg4, arg5, arg3⟩ ⟨arg9, harg9, arg13, harg13, arg17, harg17, arg22⟩ ⟨arg10, harg10, arg14, harg14, arg18, harg18, arg23⟩ ⟨arg11, harg11, arg15, harg15, arg19, harg19, arg24⟩ ⟨arg12, harg12, arg16, harg16, arg20, harg20, arg25⟩ := by
  funext t a
  obtain ⟨a0, a1, a2, a3⟩ := a
  obtain ⟨w, e5⟩ := part5_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 0#32 1#32 t a0 a1 a2 a3
  have e : k2_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 t (a0, a1, a2, a3)
      = k2_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 0#32 1#32 t a0 a1 a2 a3 >>= fun r =>
        k2_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 t r.1 r.2.1 r.2.2.1 r.2.2.2.1 r.2.2.2.2.1 r.2.2.2.2.2.1 r.2.2.2.2.2.2.1 r.2.2.2.2.2.2.2 >>= fun r =>
        Prog.lift (.waitDma2 arg25.sem (part arg3 ![0] inb_S1600000_S2000_0) arg20 (View.wordExact_bits rfl) harg20.wordExact) >>= fun _ =>
        fetchIf i ⟨arg4, arg5, arg3⟩ ⟨arg11, harg11, arg15, harg15, arg19, harg19, arg24⟩ (k2_cond4 t) (k2_off10 i t) (k2_off10_inb i t) fun _ =>
        Scf.Loop.for k2_t5_loop k2_t5_ok (r.1, r.2.1, r.2.2.1, r.2.2.2.1) (fun k acc => group i arg7 arg8 ⟨arg12, harg12, arg16, harg16, arg20, harg20, arg25⟩ (k2_off11 k) (k2_off11_inb k) acc) >>= fun a =>
        pure a := by
    unfold k2_t1_body; simp only [t5_body_eq]; rfl
  rw [e, e5]
  simp only [fetchIf_bind, bind_assoc, pure_bind, bind_pure]
  unfold trip
  refine congrArg _ (funext fun _ => congrArg _ (funext fun _ => congrArg _ (funext fun a => congrArg _ (funext fun _ => ?_))))
  obtain ⟨w', e6⟩ := part6_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0 v31 t w.1 a.1 a.2.1 a.2.2.1 a.2.2.2 w.2.1 w.2.2 100#32
  exact e6 _ _

/-- The printed body of a tile. -/
theorem body_eq :
    cc2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg23 arg24 arg25 arg26 v86_r0
      = prologue i arg2 arg7 harg7 arg8 harg8 arg26 ⟨arg4, arg5, arg3⟩ ⟨arg9, harg9, arg13, harg13, arg17, harg17, arg22⟩ ⟨arg10, harg10, arg14, harg14, arg18, harg18, arg23⟩ ⟨arg11, harg11, arg15, harg15, arg19, harg19, arg24⟩ >>= fun _ =>
        Scf.Loop.for k2_t1_loop k2_t1_ok acc0 (trip i arg7 arg8 ⟨arg4, arg5, arg3⟩ ⟨arg9, harg9, arg13, harg13, arg17, harg17, arg22⟩ ⟨arg10, harg10, arg14, harg14, arg18, harg18, arg23⟩ ⟨arg11, harg11, arg15, harg15, arg19, harg19, arg24⟩ ⟨arg12, harg12, arg16, harg16, arg20, harg20, arg25⟩) >>= fun a =>
        epilogue i arg6 arg21 harg21 v86_r0 a := by
  rw [cc2_body_eq_skeleton]; unfold cc2_body_skel
  simp only [t1_body_eq, k2_part7_eq_skeleton, k2_part8_eq_skeleton]
  rfl

end Printed

end Cert.Proof.Ising

end
-- ==== Proof.Model.lean ====
/-
  What the SparseCore kernel computes, as plain functions of the arrays' contents: a chunk of an edge array, a group of
  sixteen of its edges, the packed spins gathered at a group's ends, the four accumulators after so many groups and so
  many chunks. And what the program's views read, in those terms.
-/
module

public import proofs.«01_k».proof.Proof.Prog
public import Idealize.ShloMosaic.Lib.Pipeline.ValueKit.Geometry

@[expose] public section

noncomputable section

namespace Cert.Proof.Ising

open Cert.KernelIdeal Cert.KernelIdeal.Gen
open Idealize.ShloMosaic Idealize.SL.Sem

variable {F : FTy → Type} [FloatOps F]

/-! ## Indices by number -/

/-- The edge of number `k`. -/
def ixE (k : ℕ) : S1600000.Idx := fun a => ⟨k % S1600000.size a, Nat.mod_lt _ (by revert a; decide)⟩
/-- The place of number `k` in a chunk. -/
def ixC (k : ℕ) : S2000.Idx := fun a => ⟨k % S2000.size a, Nat.mod_lt _ (by revert a; decide)⟩
/-- The spin of number `k`. -/
def ixN (k : ℕ) : S50000.Idx := fun a => ⟨k % S50000.size a, Nat.mod_lt _ (by revert a; decide)⟩

/-- An edge array has 1600000 elements. -/
theorem s1600000 (a : Fin 1) : S1600000.size a = 1600000 := by revert a; decide
/-- A chunk has 2000 elements. -/
theorem s2000 (a : Fin 1) : S2000.size a = 2000 := by revert a; decide
/-- A packed row has 50000 elements. -/
theorem s50000 (a : Fin 1) : S50000.size a = 50000 := by revert a; decide
/-- A group has 16 elements. -/
theorem s16 (a : Fin 1) : S16.size a = 16 := by revert a; decide

/-! ## Values -/

/-- 2000 elements of an edge array from number `b`. -/
def chunk {α : Type} (v : S1600000.Idx → α) (b : ℕ) : S2000.Idx → α := fun x => v (ixE (b + (x 0).val))
/-- Sixteen elements of a chunk from number `o`. -/
def grp {α : Type} (v : S2000.Idx → α) (o : ℕ) : S16.Idx → α := fun x => v (ixC (o + (x 0).val))
/-- A packed row at sixteen ends. -/
def gat (r : Vec F S50000 .i32) (v : Vec F S16 .i32) : Vec F S16 .i32 := fun x => r (ixN (v x).toNat)

/-- One group added to the accumulators. -/
def stepv (r0 r1 : Vec F S50000 .i32) (vi vj : Vec F S16 .i32) (w : Vec F S16 .f32) (a : Acc F) : Acc F :=
  (k2_pay3 a.1 w (gat (F := F) r0 vi) (gat (F := F) r0 vj), k2_pay4 a.2.1 w (gat (F := F) r0 vi) (gat (F := F) r0 vj),
   k2_pay5 a.2.2.1 w (gat (F := F) r1 vi) (gat (F := F) r1 vj), k2_pay23 a.2.2.2 w (k2_pay6 (gat (F := F) r1 vi)) (k2_pay7 (gat (F := F) r1 vj)))

/-- The first `k` groups of a chunk added to the accumulators. -/
def accG (r0 r1 : Vec F S50000 .i32) (ci cj : Vec F S2000 .i32) (cw : Vec F S2000 .f32) (a : Acc F) : ℕ → Acc F
  | 0 => a
  | k + 1 => stepv r0 r1 (grp ci (16 * k)) (grp cj (16 * k)) (grp cw (16 * k)) (accG r0 r1 ci cj cw a k)

/-- The first edge of chunk `n` of tile `i`. -/
def cbase (i : grid2.Coords) (n : ℕ) : ℕ := 400000 * ((i 1).val / 4) + 200000 * (i 0).val + 2000 * n

/-- The accumulators of tile `i` after its first `n` chunks. -/
def accC (i : grid2.Coords) (r0 r1 : Vec F S50000 .i32) (EI EJ : Vec F S1600000 .i32) (J : Vec F S1600000 .f32) : ℕ → Acc F
  | 0 => acc0
  | n + 1 => accG r0 r1 (chunk EI (cbase i n)) (chunk EJ (cbase i n)) (chunk J (cbase i n)) (accC i r0 r1 EI EJ J n) 125

/-! ## The program's offsets in closed form -/

/-- There are two SparseCores. -/
theorem gi0 (i : grid2.Coords) : (i 0).val < 2 := (i 0).isLt
/-- Each has sixteen tiles. -/
theorem gi1 (i : grid2.Coords) : (i 1).val < 16 := (i 1).isLt

/-- Where chunk `n` of tile `i` starts, as an offset. -/
def coff (i : grid2.Coords) (n : ℕ) : Fin 1 → ℕ := ![cbase i n]

/-- The first hundred chunks of a tile lie in the edge arrays. -/
theorem coff_inb (i : grid2.Coords) (n : ℕ) (h : n < 100) : ∀ a, coff i n a + S2000.size a ≤ S1600000.size a := by
  intro a; rw [s2000, s1600000, Subsingleton.elim a 0]
  have h0 := gi0 i; have h1 := gi1 i
  show cbase i n + 2000 ≤ 1600000
  unfold cbase; omega

/-- The first copies made ahead of the loop are of chunk 0. -/
theorem off1_0 : ∀ i : grid2.Coords, k2_off1 i 0#32 = coff i 0 := by decide +kernel
/-- The second are of chunk 1. -/
theorem off1_1 : ∀ i : grid2.Coords, k2_off1 i 2000#32 = coff i 1 := by decide +kernel
/-- The third are of chunk 2. -/
theorem off1_2 : ∀ i : grid2.Coords, k2_off1 i 4000#32 = coff i 2 := by decide +kernel
/-- Trip `t` first starts the copies of chunk `4t + 3`; -/
theorem off4_eq : ∀ (i : grid2.Coords) (t : Fin k2_t1_loop.trips), k2_off4 i t = coff i (4 * t.val + 3) := by decide +kernel
/-- then those of chunk `4t + 4`; -/
theorem off6_eq : ∀ (i : grid2.Coords) (t : Fin k2_t1_loop.trips), k2_off6 i t = coff i (4 * t.val + 4) := by decide +kernel
/-- then those of chunk `4t + 5`; -/
theorem off8_eq : ∀ (i : grid2.Coords) (t : Fin k2_t1_loop.trips), k2_off8 i t = coff i (4 * t.val + 5) := by decide +kernel
/-- and last those of chunk `4t + 6`. -/
theorem off10_eq : ∀ (i : grid2.Coords) (t : Fin k2_t1_loop.trips), k2_off10 i t = coff i (4 * t.val + 6) := by decide +kernel
/-- It starts the first if there is such a chunk; -/
theorem cond1_iff : ∀ t : Fin k2_t1_loop.trips, k2_cond1 t = 1#1 ↔ 4 * t.val + 3 < 100 := by decide +kernel
/-- and so the second; -/
theorem cond2_iff : ∀ t : Fin k2_t1_loop.trips, k2_cond2 t = 1#1 ↔ 4 * t.val + 4 < 100 := by decide +kernel
/-- the third; -/
theorem cond3_iff : ∀ t : Fin k2_t1_loop.trips, k2_cond3 t = 1#1 ↔ 4 * t.val + 5 < 100 := by decide +kernel
/-- and the fourth. -/
theorem cond4_iff : ∀ t : Fin k2_t1_loop.trips, k2_cond4 t = 1#1 ↔ 4 * t.val + 6 < 100 := by decide +kernel
/-- A tile's first row of the packed spins. -/
theorem off2_eq : ∀ i : grid2.Coords, k2_off2 i = ![2 * ((i 1).val % 4), 0] := by decide +kernel
/-- A tile's second row of the packed spins. -/
theorem off3_eq : ∀ i : grid2.Coords, k2_off3 i = ![2 * ((i 1).val % 4) + 1, 0] := by decide +kernel
/-- Where a tile's rows of the result begin. -/
theorem off12_eq : ∀ i : grid2.Coords, k2_off12 i = ![8 * ((i 1).val % 4) + 2 * ((i 1).val / 4) + (i 0).val, 0, 0] := by decide +kernel
/-- The loop over the chunks makes 25 trips, of four chunks each. -/
theorem trips1 : k2_t1_loop.trips = 25 := by decide
/-- The loop over a chunk in the first buffer makes 125 trips, one for each group. -/
theorem trips2 : k2_t2_loop.trips = 125 := by decide
/-- So does the loop over the second buffer, -/
theorem trips3 : k2_t3_loop.trips = 125 := by decide
/-- over the third, -/
theorem trips4 : k2_t4_loop.trips = 125 := by decide
/-- and over the fourth. -/
theorem trips5 : k2_t5_loop.trips = 125 := by decide

/-! ## What the views read -/

/-- A slice of 2000 elements reads the chunk from its offset. -/
theorem read_part {e : EltTy} (m : Memref sig .scVector .hbm S1600000 e) (off : Fin 1 → ℕ) (inb : ∀ a, off a + S2000.size a ≤ S1600000.size a)
    (f : m.view.ty.Contents (Elt F)) : (part m off inb).view.read (Elt F) f = chunk (m.view.read (Elt F) f) (off 0) := by
  funext x
  show m.view.read (Elt F) f ((Rect.unit (s := S1600000) off S2000.size inb).emb x) = m.view.read (Elt F) f (ixE (off 0 + (x 0).val))
  congr 1; funext a; apply Fin.ext
  rw [ValueKit.rect_emb_unit_val, Subsingleton.elim a 0]
  have h := inb 0; have hx : (x 0).val < 2000 := lt_of_lt_of_eq (x 0).isLt (s2000 0)
  rw [s2000, s1600000] at h
  show _ = (off 0 + (x 0).val) % S1600000.size 0
  rw [s1600000, Nat.mod_eq_of_lt (by omega)]

/-- A load of sixteen elements reads a group. -/
theorem readAt_grp {e : EltTy} (m : Memref sig .scVector .vmem S2000 e) (off : Fin 1 → ℕ) (inb : ∀ a, off a + S16.size a ≤ S2000.size a)
    (f : m.view.ty.Contents (Elt F)) :
    m.view.readAt (Elt F) (Rect.unit (s := S2000) off S16.size inb).toLoadRect f = grp (m.view.read (Elt F) f) (off 0) := by
  rw [View.readAt_rect]
  funext x
  show m.view.read (Elt F) f ((Rect.unit (s := S2000) off S16.size inb).emb x) = m.view.read (Elt F) f (ixC (off 0 + (x 0).val))
  congr 1; funext a; apply Fin.ext
  rw [ValueKit.rect_emb_unit_val, Subsingleton.elim a 0]
  have h := inb 0; have hx : (x 0).val < 16 := lt_of_lt_of_eq (x 0).isLt (s16 0)
  rw [s2000, s16] at h
  show _ = (off 0 + (x 0).val) % S2000.size 0
  rw [s2000, Nat.mod_eq_of_lt (by omega)]

/-- The checked gather is the gather by number. -/
theorem loadIdx_gat (r : Vec F S50000 .i32) (v : Vec F S16 .i32) (h : ∀ a x, ((![v] : Fin 1 → IVec S16 32) a x).toNat < S50000.size a) :
    loadIdx (F := F) (s := S50000) (e := .i32) r ![v] h = gat r v := by
  funext x
  show r _ = r _
  congr 1; funext a; apply Fin.ext
  have := h a x
  rw [Subsingleton.elim a 0] at this ⊢
  exact (Nat.mod_eq_of_lt this).symm

/-- Reading a whole memref through its own whole rectangle is reading it. -/
theorem read_access {s : Shape} {e : EltTy} {cs : CoreSpace} (m : Memref sig .scVector cs s e) (f : m.view.ty.Contents (Elt F)) :
    (m.access (.whole s)).read (Elt F) f = m.view.read (Elt F) f := by
  funext x
  show m.view.read (Elt F) f ((Rect.whole s).emb x) = _
  rw [Rect.emb_whole_apply]

/-- Ends below the number of spins pass the checks. -/
theorem chk1_of (v : Vec F S16 .i32) (h : ∀ x, (v x).toNat < 50000) : k2_chk1 v :=
  ⟨fun a x => by rw [Subsingleton.elim a 0]; exact h x, fun a x => by rw [Subsingleton.elim a 0]; exact h x⟩
/-- The check of the second ends holds if each names a spin. -/
theorem chk2_of (v : Vec F S16 .i32) (h : ∀ x, (v x).toNat < 50000) : k2_chk2 v :=
  ⟨fun a x => by rw [Subsingleton.elim a 0]; exact h x, fun a x => by rw [Subsingleton.elim a 0]; exact h x⟩

end Cert.Proof.Ising

end
-- ==== Proof.Common.lean ====
/-
  The program as the launch theorem sees it, the ghost state its proof uses, and the locations of its buffers.
-/
module

public import proofs.«01_k».proof.Proof.Model
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic

@[expose] public section

noncomputable section

namespace Cert.Proof.Ising

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program with its two pipelined regions. -/
abbrev ΛP : Labels := Pipeline.Sig Λ₀ (Fin 2) fun p => (pcfgs (F := F) p).Adm
/-- The SparseCore calls of the program: one. -/
abbrev K : SparseCore.Cfg τ sig (ΛP (F := F)) 1 := sc (F := F)
/-- The regions' procedures over the kernels'. -/
abbrev D [FloatOps F] : Defs nD τ sig (Elt F) (ΛP (F := F)) := Pipeline.defs pcfgs defs₀
/-- No kernel has a while loop to measure. -/
abbrev 𝒱₀ : Variants := Variants.none
/-- The same for the program with its regions. -/
abbrev 𝒱 : Variants := 𝒱₀.lift
/-- The one variant. -/
abbrev v₀ : 𝒱.V := Sum.inl none

/-- The call's semaphores are distinct and no scope's own, and no array of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

/-- The rounds of the handshakes between the TensorCore, the sequencers and the tiles. -/
abbrev UH : Type := URounds (GSem nD τ sig) ℕ
/-- The rounds of the regions' copies. -/
abbrev UP : Type := URounds (GSem nD τ sig) Unit
/-- All of the ghost state. -/
abbrev UU : Type := UH × (UP × Counters)

local notation "𝕄" => MT nD τ sig (HIx 1) (Elt F) ℕ UU ℕ

/-- The handshakes' rounds in the ghost state. -/
abbrev EH : Emb UH (MT nD τ sig (HIx 1) (Elt F) ℕ UU ℕ) := embL
/-- The pipelines' rounds. -/
def EP : Emb UP (MT nD τ sig (HIx 1) (Elt F) ℕ UU ℕ) := (Emb.inl : Emb UP (UP × Counters)).trans embR
/-- They land in the part that invariants may store. -/
instance EP_landsIn : (EP : Emb UP 𝕄).LandsIn (upEmb : UEmb _ 𝕄) := by unfold EP; infer_instance
/-- The transfers' counters. -/
abbrev EC : UEmb Counters (MT nD τ sig (HIx 1) (Elt F) ℕ UU ℕ) := countersEmb (U := UU)

/-! ## The tile's thread -/

/-- The SparseCore of tile `i`. -/
abbrev cV (i : grid2.Coords) : Fin τ.nSC := (i 0).castLE hcore2
/-- The number of tile `i` on its SparseCore. -/
abbrev jV (i : grid2.Coords) : Fin τ.nSub := (i 1).castLE hsub2
/-- Tile `i` of device `d`. -/
abbrev TT (d : Dev nD) (i : grid2.Coords) : Thread nD τ := V d (cV i) (jV i)

/-- A share of a memref's buffer, whose contents read `v`. -/
def rd (d : Dev nD) (i : grid2.Coords) (q : PosShare TreeShare) {cs : Space} {s : Shape} {e : EltTy} (m : Memref sig .scVector cs s e) (v : Vec F s e) : sProp 𝕄 :=
  iprop(∃ f, ⌜m.view.read (Elt F) f = v⌝ ∗ (m.view.loc (TT d i) ↦{q} f))

/-- A reading may be stored in an invariant. -/
instance rd_storable (d : Dev nD) (i : grid2.Coords) (q : PosShare TreeShare) {cs : Space} {s : Shape} {e : EltTy} (m : Memref sig .scVector cs s e) (v : Vec F s e) :
    Storable (upEmb : UEmb _ 𝕄) (rd d i q m v) := by unfold rd; infer_instance

/-- A memref held outright, reading `v`. -/
abbrev own (d : Dev nD) (i : grid2.Coords) {cs : Space} {s : Shape} {e : EltTy} (m : Memref sig .scVector cs s e) (v : Vec F s e) : sProp 𝕄 := rd d i fullShare m v

end Cert.Proof.Ising

end
-- ==== Proof.Group.lean ====
/-
  The inner loop of the SparseCore kernel: one group of sixteen edges, and the 125 groups of a chunk.
-/
module

public import proofs.«01_k».proof.Proof.Common

@[expose] public section

noncomputable section

namespace Cert.Proof.Ising

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid2.Coords) (pk0 pk1 : Memref sig .scVector .vmem S50000 .i32) (Z : Slot)
variable (r0 r1 : Vec F S50000 .i32) (ci cj : Vec F S2000 .i32) (cw : Vec F S2000 .f32)

/-- What the inner loop reads: the two packed rows and a buffer of the ring. -/
def reads : sProp 𝕄 :=
  iprop(own d i pk0 r0 ∗ own d i pk1 r1 ∗ own d i Z.bi ci ∗ own d i Z.bj cj ∗ own d i Z.bw cw)

/-- If every end of a chunk names a spin, so does every end of a group of it. -/
theorem grp_lt (hci : ∀ x, (ci x).toNat < 50000) (o : ℕ) : ∀ x, (grp ci o x).toNat < 50000 := fun _ => hci _

/-- Binding a returned value applies the continuation to it. -/
theorem bind_of_ret {E : Type → Type} {α β : Type} (a : α) (k : α → Prog E β) : (Prog.ret a).bind k = k a := rfl

/-- One group: the accumulators stepped, nothing changed in memory. -/
theorem wp_group (hci : ∀ x, (ci x).toNat < 50000) (hcj : ∀ x, (cj x).toNat < 50000) (off : Fin 1 → ℕ) (inb : ∀ a, off a + S16.size a ≤ S2000.size a) (a : Acc F) :
    (reads d i pk0 pk1 Z r0 r1 ci cj cw : sProp 𝕄)
      ⊢ wp frame (wpE (defs₀ (F := F)) 𝒱₀ (TT d i) none) Set.univ (group i pk0 pk1 Z off inb a)
          fun a' => iprop(⌜a' = stepv r0 r1 (grp ci (off 0)) (grp cj (off 0)) (grp cw (off 0)) a⌝ ∗ reads d i pk0 pk1 Z r0 r1 ci cj cw) := by
  unfold reads own rd group
  iintro ⟨⟨%f0, %e0, H0⟩, ⟨%f1, %e1, H1⟩, ⟨%fi, %ei, Hi⟩, ⟨%fj, %ej, Hj⟩, ⟨%fw, %ew, Hw⟩⟩
  iapply (wp_load 𝒱₀ (TT d i) none Set.univ (m := Z.bi) (S := Finset.univ) (Finset.subset_univ _)) $$ Hi; iintro Hi
  rw [readAt_grp, ei]
  simp only [bind_of_ret, Prog.lift, Prog.bind_op, Prog.bind_ret]
  rw [wp_assume_of 𝒱₀ (TT d i) none Set.univ (chk1_of (F := F) _ (grp_lt ci hci _))]
  iapply (wp_load 𝒱₀ (TT d i) none Set.univ (m := Z.bj) (S := Finset.univ) (Finset.subset_univ _)) $$ Hj; iintro Hj
  rw [readAt_grp, ej]
  rw [wp_assume_of 𝒱₀ (TT d i) none Set.univ (chk2_of (F := F) _ (grp_lt cj hcj _))]
  iapply (wp_load 𝒱₀ (TT d i) none Set.univ (m := Z.bw) (S := Finset.univ) (Finset.subset_univ _)) $$ Hw; iintro Hw
  rw [readAt_grp, ew]
  iapply (SparseCore.wp_vectorLoadIdx 𝒱₀ (TT d i) none Set.univ (base := pk0) (S := Finset.univ) (q := fullShare) (Finset.subset_univ _)) $$ H0; iintro H0
  rw [read_access, e0, loadIdx_gat]
  iapply (SparseCore.wp_vectorLoadIdx 𝒱₀ (TT d i) none Set.univ (base := pk0) (S := Finset.univ) (q := fullShare) (Finset.subset_univ _)) $$ H0; iintro H0
  rw [read_access, e0, loadIdx_gat]
  iapply (SparseCore.wp_vectorLoadIdx 𝒱₀ (TT d i) none Set.univ (base := pk1) (S := Finset.univ) (q := fullShare) (Finset.subset_univ _)) $$ H1; iintro H1
  rw [read_access, e1, loadIdx_gat]
  iapply (SparseCore.wp_vectorLoadIdx 𝒱₀ (TT d i) none Set.univ (base := pk1) (S := Finset.univ) (q := fullShare) (Finset.subset_univ _)) $$ H1; iintro H1
  rw [read_access, e1, loadIdx_gat]
  rw [wp_pure]; imodintro
  isplitr; · ipureintro; rfl
  isplitl [H0]; · iexists f0; isplitr; · ipureintro; exact e0
                  iexact H0
  isplitl [H1]; · iexists f1; isplitr; · ipureintro; exact e1
                  iexact H1
  isplitl [Hi]; · iexists fi; isplitr; · ipureintro; exact ei
                  iexact Hi
  isplitl [Hj]; · iexists fj; isplitr; · ipureintro; exact ej
                  iexact Hj
  iexists fw; isplitr; · ipureintro; exact ew
  iexact Hw

/-- The 125 groups of a chunk. -/
theorem wp_groups (hci : ∀ x, (ci x).toNat < 50000) (hcj : ∀ x, (cj x).toNat < 50000) (L : Scf.Loop 32) (ok : L.OK) (hL : L.trips = 125)
    (off : Fin L.trips → Fin 1 → ℕ) (hoff : ∀ k, off k = ![16 * k.val]) (inb : ∀ k a, off k a + S16.size a ≤ S2000.size a) (a : Acc F) (Q : Acc F → sProp 𝕄) :
    iprop(reads d i pk0 pk1 Z r0 r1 ci cj cw ∗ (reads d i pk0 pk1 Z r0 r1 ci cj cw -∗ Q (accG r0 r1 ci cj cw a 125)))
      ⊢ wp frame (wpE (defs₀ (F := F)) 𝒱₀ (TT d i) none) Set.univ (Scf.Loop.for L ok a (fun k acc => group i pk0 pk1 Z (off k) (inb k) acc)) Q := by
  iintro ⟨HR, HQ⟩
  iapply (Scf.wp_for frame (wpE (defs₀ (F := F)) 𝒱₀ (TT d i) none) Set.univ L.lb L.ub L.st ok a (fun k acc => group i pk0 pk1 Z (off k) (inb k) acc)
    (fun k acc => iprop(⌜acc = accG r0 r1 ci cj cw a k⌝ ∗ reads d i pk0 pk1 Z r0 r1 ci cj cw)) ?hb)
  case hb =>
    intro k acc
    iintro ⟨%e, HR⟩
    subst e
    iapply ((wp_group d i pk0 pk1 Z r0 r1 ci cj cw hci hcj (off k) (inb k) _).trans (wp_mono frame _ _ fun a' => ?_)) $$ HR
    rw [hoff]; exact .rfl
  isplitl [HR]
  · isplitr; · ipureintro; rfl
    iexact HR
  iintro %acc ⟨%e, HR⟩
  rw [show Scf.trips L.lb L.ub L.st = 125 from hL] at e
  subst e
  iapply HQ; iexact HR

end Cert.Proof.Ising

end
-- ==== Proof.Ring.lean ====
/-
  A buffer of the ring: idle, or with a chunk's three copies in flight. The three copies start from idle; the three waits
  lead back to it, with the chunk in the buffer.
-/
module

public import proofs.«01_k».proof.Proof.Group

@[expose] public section

noncomputable section

namespace Cert.Proof.Ising

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The edge arrays' contents, as a tile addresses them. -/
structure Conts (F : FTy → Type) (d : Dev nD) (i : grid2.Coords) (E : Edges) where
  fI : Buf (Elt F) (E.aI.view.loc (TT d i))
  fJ : Buf (Elt F) (E.aJ.view.loc (TT d i))
  fW : Buf (Elt F) (E.aW.view.loc (TT d i))

variable (d : Dev nD) (i : grid2.Coords) (E : Edges) (C : Conts F d i E) (q : PosShare TreeShare) (Z : Slot)

/-- What the edge arrays read. -/
abbrev vI : Vec F S1600000 .i32 := E.aI.view.read (Elt F) C.fI
/-- The second ends, as the tile reads them. -/
abbrev vJ : Vec F S1600000 .i32 := E.aJ.view.read (Elt F) C.fJ
/-- The couplings, as the tile reads them. -/
abbrev vW : Vec F S1600000 .f32 := E.aW.view.read (Elt F) C.fW

/-- A share of the three edge arrays. -/
def eds : sProp 𝕄 :=
  iprop((E.aI.view.loc (TT d i) ↦{q} C.fI) ∗ (E.aJ.view.loc (TT d i) ↦{q} C.fJ) ∗ (E.aW.view.loc (TT d i) ↦{q} C.fW))

/-- A buffer of the ring holding three vectors. -/
def holds (ci cj : Vec F S2000 .i32) (cw : Vec F S2000 .f32) : sProp 𝕄 := iprop(own d i Z.bi ci ∗ own d i Z.bj cj ∗ own d i Z.bw cw)

/-- An idle buffer: whatever it holds, its semaphore at zero, and its share of the edge arrays. -/
def idle : sProp 𝕄 := iprop((∃ ci cj cw, holds d i Z ci cj cw) ∗ semVal (TT d i, SemLoc.dma Z.sem.sem) 0 ∗ eds d i E C q)

variable (off : Fin 1 → ℕ) (inb : ∀ a, off a + S2000.size a ≤ S1600000.size a)

/-- What the three copies of a chunk deliver: the destination with the chunk, and the source's piece back. -/
def deliv : Fin 3 → sProp 𝕄
  | ⟨0, _⟩ => iprop(own d i Z.bi (chunk (vI d i E C) (off 0)) ∗ (E.aI.view.loc (TT d i) ↦[(part E.aI off inb).view.set]{q} C.fI))
  | ⟨1, _⟩ => iprop(own d i Z.bj (chunk (vJ d i E C) (off 0)) ∗ (E.aJ.view.loc (TT d i) ↦[(part E.aJ off inb).view.set]{q} C.fJ))
  | ⟨2, _⟩ => iprop(own d i Z.bw (chunk (vW d i E C) (off 0)) ∗ (E.aW.view.loc (TT d i) ↦[(part E.aW off inb).view.set]{q} C.fW))

/-- What the copies deliver may be stored in an invariant. -/
instance deliv_storable : ∀ t, Storable (upEmb : UEmb _ 𝕄) (deliv d i E C q Z off inb t)
  | ⟨0, _⟩ => by unfold deliv; infer_instance
  | ⟨1, _⟩ => by unfold deliv; infer_instance
  | ⟨2, _⟩ => by unfold deliv; infer_instance

/-- The rest of the edge arrays' share while a chunk is copied. -/
def rests : sProp 𝕄 :=
  iprop((E.aI.view.loc (TT d i) ↦[Finset.univ \ (part E.aI off inb).view.set]{q} C.fI) ∗ (E.aJ.view.loc (TT d i) ↦[Finset.univ \ (part E.aJ off inb).view.set]{q} C.fJ)
    ∗ (E.aW.view.loc (TT d i) ↦[Finset.univ \ (part E.aW off inb).view.set]{q} C.fW))

/-- The units one copy of 2000 words credits. -/
abbrev NC : ℕ := RefSig.bitCredit S2000 .i32

/-- A copy of a chunk of ends credits `NC` units. -/
theorem creditI (m : Memref sig .scVector .vmem S2000 .i32) : m.view.dmaCredit = NC := rfl
/-- A copy of a chunk of couplings credits as many. -/
theorem creditF (m : Memref sig .scVector .vmem S2000 .f32) : m.view.dmaCredit = NC := rfl
/-- A chunk's copy credits something. -/
theorem NC_pos : 0 < NC := by decide

/-- A chunk's three copies in flight. -/
def flight : sProp 𝕄 :=
  iprop(Transfers.Batch EC (TT d i) (.dma Z.sem.sem) (none : HIx 1) NC (deliv d i E C q Z off inb) 3 0 ∗ rests d i E C q off inb)

/-- The three deliveries of a chunk's copies, one by one. -/
theorem deliv_all :
    bigSep Finset.univ (deliv d i E C q Z off inb)
      ⊢ iprop(deliv d i E C q Z off inb ⟨0, by decide⟩ ∗ deliv d i E C q Z off inb ⟨1, by decide⟩ ∗ deliv d i E C q Z off inb ⟨2, by decide⟩) := by
  rw [Idealize.SL.BI.bigSep_univ_eq_bigSepL [0, 1, 2] (by decide) (by decide) _]
  exact .rfl

/-- One copy's landing delivers the destination reading the chunk. -/
theorem landed {e : EltTy} (mb : Memref sig .scVector .vmem S2000 e) (ma : Memref sig .scVector .hbm S1600000 e) (fd : Buf (Elt F) (mb.view.loc (TT d i))) (fs : Buf (Elt F) (ma.view.loc (TT d i))) :
    iprop((mb.view.loc (TT d i) ↦[Finset.univ]{fullShare} (mb.view.write (Elt F) fd (ReadAs.same.apply ((part ma off inb).view.read (Elt F) fs)) Finset.univ))
        ∗ ((part ma off inb).view.loc (TT d i) ↦[(part ma off inb).view.set]{q} fs))
      ⊢ (iprop(own d i mb (chunk (ma.view.read (Elt F) fs) (off 0)) ∗ (ma.view.loc (TT d i) ↦[(part ma off inb).view.set]{q} fs)) : sProp 𝕄) := by
  unfold own rd
  iintro ⟨Hd, Hs⟩
  isplitl [Hd]
  · iexists (mb.view.write (Elt F) fd (ReadAs.same.apply ((part ma off inb).view.read (Elt F) fs)) Finset.univ); isplitr
    · ipureintro; exact (View.read_write_univ (v := mb.view) fd _).trans (read_part ma off inb fs)
    · iexact Hd
  · iexact Hs

/-- The three copies of a chunk into an idle buffer. -/
theorem wp_fetch3 (Q : PUnit → sProp 𝕄) :
    iprop(idle d i E C q Z ∗ (flight d i E C q Z off inb -∗ Q ⟨⟩))
      ⊢ wp frame (wpE (defs₀ (F := F)) 𝒱₀ (TT d i) none) Set.univ (fetch3 i E Z off inb) Q := by
  unfold idle holds eds own rd fetch3
  iintro ⟨⟨⟨%ci, %cj, %cw, ⟨%gi, -, Hi⟩, ⟨%gj, -, Hj⟩, ⟨%gw, -, Hw⟩⟩, Hsem, HI, HJ, HW⟩, HQ⟩
  ihave HI' := ((pointsTo_split_subset (Finset.subset_univ (part E.aI off inb).view.set)).1) $$ HI
  ihave HJ' := ((pointsTo_split_subset (Finset.subset_univ (part E.aJ off inb).view.set)).1) $$ HJ
  ihave HW' := ((pointsTo_split_subset (Finset.subset_univ (part E.aW off inb).view.set)).1) $$ HW
  icases HI' with ⟨HI, HIr⟩
  icases HJ' with ⟨HJ, HJr⟩
  icases HW' with ⟨HW, HWr⟩
  imod (Transfers.batch_alloc' (Lvl := ℕ) EC (TT d i) (none : HIx 1) NC (deliv d i E C q Z off inb) (sm := .dma Z.sem.sem) (E := Set.univ)) $$ Hsem with HB
  simp only [Prog.lift, Prog.bind_op, Prog.bind_ret]
  iapply (Transfers.wp_dmaBatch EC 𝒱₀ (TT d i) none (sm := .dma Z.sem.sem) (src := part E.aI off inb) (dst := Z.bi) (Sd := Finset.univ) (none : HIx 1) NC (creditI Z.bi) (Finset.subset_univ _)
    (D := deliv d i E C q Z off inb) (j := 0) (u := 0) (by decide) (Nat.zero_le _) (landed d i q off inb Z.bi E.aI gi C.fI)) $$ [HI Hi HB]
  · isplitl [HI]; · iexact HI
    isplitl [Hi]; · iexact Hi
    iexact HB
  iintro HB
  simp only [bind_of_ret]
  iapply (Transfers.wp_dmaBatch EC 𝒱₀ (TT d i) none (sm := .dma Z.sem.sem) (src := part E.aJ off inb) (dst := Z.bj) (Sd := Finset.univ) (none : HIx 1) NC (creditI Z.bj) (Finset.subset_univ _)
    (D := deliv d i E C q Z off inb) (j := 1) (u := 0) (by decide) (Nat.zero_le _) (landed d i q off inb Z.bj E.aJ gj C.fJ)) $$ [HJ Hj HB]
  · isplitl [HJ]; · iexact HJ
    isplitl [Hj]; · iexact Hj
    iexact HB
  iintro HB
  simp only [bind_of_ret]
  iapply (Transfers.wp_dmaBatch EC 𝒱₀ (TT d i) none (sm := .dma Z.sem.sem) (src := part E.aW off inb) (dst := Z.bw) (Sd := Finset.univ) (none : HIx 1) NC (creditF Z.bw) (Finset.subset_univ _)
    (D := deliv d i E C q Z off inb) (j := 2) (u := 0) (by decide) (Nat.zero_le _) (landed d i q off inb Z.bw E.aW gw C.fW)) $$ [HW Hw HB]
  · isplitl [HW]; · iexact HW
    isplitl [Hw]; · iexact Hw
    iexact HB
  iintro HB
  rw [wp_ret]; imodintro
  iapply HQ
  unfold flight rests
  isplitl [HB]; · iexact HB
  isplitl [HIr]; · iexact HIr
  isplitl [HJr]; · iexact HJr
  iexact HWr

/-- What a tile owes, with some waits recorded beyond `W`, each at the index no handshake uses. -/
def owesW (O : CellTallies nD τ sig (HIx 1)) (W : Waits sig (HIx 1)) : sProp 𝕄 :=
  iprop(∃ W', ⌜∀ p ∈ W', p ∈ W ∨ p.2 = none⌝ ∗ owes (TT d i) O W')

/-- One more wait outside the handshakes leaves the record as the invariant has it. -/
theorem mem_ins {W W' : Waits sig (HIx 1)} {s : SemLoc sig} (h : ∀ p ∈ W', p ∈ W ∨ p.2 = none) : ∀ p ∈ insert (s, (none : HIx 1)) W', p ∈ W ∨ p.2 = none := by
  intro p hp
  rcases Finset.mem_insert.mp hp with hp | hp
  · exact .inr (hp ▸ rfl)
  · exact h p hp

/-- The three waits for a chunk in flight: the buffer holds it, the semaphore is at zero, the share of the edge arrays is back. -/
theorem wp_wait3 (O : CellTallies nD τ sig (HIx 1)) (W : Waits sig (HIx 1)) (Q : PUnit → sProp 𝕄) :
    iprop(Transfers.MayWaits (TT d i) (none : HIx 1) O ∗ flight d i E C q Z off inb ∗ owesW d i O W
        ∗ (holds d i Z (chunk (vI d i E C) (off 0)) (chunk (vJ d i E C) (off 0)) (chunk (vW d i E C) (off 0)) ∗ semVal (TT d i, SemLoc.dma Z.sem.sem) 0 ∗ eds d i E C q
            ∗ owesW d i O W -∗ Q ⟨⟩))
      ⊢ wp frame (wpE (defs₀ (F := F)) 𝒱₀ (TT d i) none) Set.univ (wait3 i E Z) Q := by
  unfold flight owesW wait3 rests
  iintro ⟨#Hmw, ⟨HB, HIr, HJr, HWr⟩, ⟨%W', %hW, HO⟩, HQ⟩
  ihave Hm := (Transfers.MayWaits.elim (SemLoc.dma Z.sem.sem)) $$ Hmw
  simp only [Prog.lift, Prog.bind_op, Prog.bind_ret]
  iapply (Transfers.wp_waitBatchO EC 𝒱₀ (TT d i) none (dstw := Z.bi) (none : HIx 1) (creditI Z.bi) (D := deliv d i E C q Z off inb) (u := 0) (by decide)) $$ [HB HO Hm]
  · isplitl [HB]; · iexact HB
    isplitl [HO]; · iexact HO
    iexact Hm
  iintro ⟨HB, HO⟩
  simp only [bind_of_ret]
  ihave Hm := (Transfers.MayWaits.elim (SemLoc.dma Z.sem.sem)) $$ Hmw
  iapply (Transfers.wp_waitBatchO EC 𝒱₀ (TT d i) none (dstw := Z.bj) (none : HIx 1) (creditI Z.bj) (D := deliv d i E C q Z off inb) (u := 0 + NC) (by decide)) $$ [HB HO Hm]
  · isplitl [HB]; · iexact HB
    isplitl [HO]; · iexact HO
    iexact Hm
  iintro ⟨HB, HO⟩
  simp only [bind_of_ret]
  ihave Hm := (Transfers.MayWaits.elim (SemLoc.dma Z.sem.sem)) $$ Hmw
  iapply (Transfers.wp_waitBatchLastO EC 𝒱₀ (TT d i) none (dstw := Z.bw) (none : HIx 1) (creditF Z.bw) NC_pos (D := deliv d i E C q Z off inb) (u := 0 + NC + NC) (by decide)) $$ [HB HO Hm]
  · isplitl [HB]; · iexact HB
    isplitl [HO]; · iexact HO
    iexact Hm
  iintro ⟨HD, Hsem, HO⟩
  ihave HD' := (deliv_all d i E C q Z off inb) $$ HD
  unfold deliv
  icases HD' with ⟨⟨Hi, HI⟩, ⟨Hj, HJ⟩, ⟨Hw, HW⟩⟩
  rw [wp_ret]; imodintro
  iapply HQ
  unfold holds eds
  isplitl [Hi Hj Hw]
  · isplitl [Hi]; · iexact Hi
    isplitl [Hj]; · iexact Hj
    iexact Hw
  isplitl [Hsem]; · iexact Hsem
  isplitl [HI HJ HW HIr HJr HWr]
  · isplitl [HI HIr]
    · iapply ((pointsTo_split_subset (Finset.subset_univ (part E.aI off inb).view.set)).2)
      isplitl [HI] <;> iassumption
    isplitl [HJ HJr]
    · iapply ((pointsTo_split_subset (Finset.subset_univ (part E.aJ off inb).view.set)).2)
      isplitl [HJ] <;> iassumption
    iapply ((pointsTo_split_subset (Finset.subset_univ (part E.aW off inb).view.set)).2)
    isplitl [HW] <;> iassumption
  iexists (insert (SemLoc.dma Z.sem.sem, (none : HIx 1)) (insert (SemLoc.dma Z.sem.sem, (none : HIx 1)) (insert (SemLoc.dma Z.sem.sem, (none : HIx 1)) W'))); isplitr
  · ipureintro; exact mem_ins (mem_ins (mem_ins hW))
  · iexact HO

/-! ## The ring -/

/-- Chunk `n` in flight on a buffer, or — past the last chunk — the buffer idle. -/
def slotAt (n : ℕ) : sProp 𝕄 := if h : n < 100 then flight d i E C q Z (coff i n) (coff_inb i n h) else idle d i E C q Z

/-- With a chunk `n`, the buffer's copies are in flight. -/
theorem slotAt_of {n : ℕ} (h : n < 100) : slotAt d i E C q Z n = flight d i E C q Z (coff i n) (coff_inb i n h) := dif_pos h

/-- Past the last chunk, the buffer is idle. -/
theorem slotAt_done {n : ℕ} (h : ¬ n < 100) : slotAt d i E C q Z n ⊢ idle d i E C q Z := Entails.of_eq (dif_neg h)

/-- The copies of chunk `n` into an idle buffer, if there is a chunk `n`. -/
theorem wp_fetchIf {n : ℕ} {c : BitVec 1} (hc : c = 1#1 ↔ n < 100) (off : Fin 1 → ℕ) (hoff : off = coff i n) (inb : c = 1#1 → ∀ a, off a + S2000.size a ≤ S1600000.size a) {α : Type}
    (k : PUnit → Prog (TE F i) α) (Q : α → sProp 𝕄) :
    iprop(idle d i E C q Z ∗ (slotAt d i E C q Z n -∗ wp frame (wpE (defs₀ (F := F)) 𝒱₀ (TT d i) none) Set.univ (k ⟨⟩) Q))
      ⊢ wp frame (wpE (defs₀ (F := F)) 𝒱₀ (TT d i) none) Set.univ (fetchIf i E Z c off inb k) Q := by
  subst hoff
  unfold fetchIf
  by_cases h : c = 1#1
  · rw [dif_pos h, wp_bind]
    iintro ⟨HZ, HQ⟩
    iapply (wp_fetch3 d i E C q Z (coff i n) (inb h)) $$ [HZ HQ]
    isplitl [HZ]; · iexact HZ
    iintro HF
    iapply HQ
    rw [slotAt_of d i E C q Z (hc.1 h)]
    iexact HF
  · rw [dif_neg h]
    iintro ⟨HZ, HQ⟩
    iapply HQ
    unfold slotAt
    rw [dif_neg (fun hn => h (hc.2 hn))]
    iexact HZ

end Cert.Proof.Ising

end
-- ==== Proof.Loop.lean ====
/-
  The loop of a tile: at the start of each trip three chunks are in flight and one buffer is idle, and the accumulators
  hold the sums over the chunks so far.
-/
module

public import proofs.«01_k».proof.Proof.Ring

@[expose] public section

noncomputable section

namespace Cert.Proof.Ising

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid2.Coords) (E : Edges) (C : Conts F d i E) (pk0 pk1 : Memref sig .scVector .vmem S50000 .i32) (r0 r1 : Vec F S50000 .i32)

/-- The two packed rows. -/
def packs : sProp 𝕄 := iprop(own d i pk0 r0 ∗ own d i pk1 r1)

/-- The accumulators after `n` chunks. -/
abbrev accN (n : ℕ) : Acc F := accC i r0 r1 (vI d i E C) (vJ d i E C) (vW d i E C) n

variable (O : CellTallies nD τ sig (HIx 1)) (W : Waits sig (HIx 1))

/-- One buffer's turn: its chunk `n` is waited for, the next chunk `m` started into the idle buffer `Z'`, the groups added. -/
theorem wp_stage (hI : ∀ x, (vI d i E C x).toNat < 50000) (hJ : ∀ x, (vJ d i E C x).toNat < 50000) (q q' : PosShare TreeShare) (Z Z' : Slot)
    {n m : ℕ} (hn : n < 100) {c : BitVec 1} (hc : c = 1#1 ↔ m < 100) (off : Fin 1 → ℕ) (hoff : off = coff i m)
    (inb : c = 1#1 → ∀ a, off a + S2000.size a ≤ S1600000.size a)
    (L : Scf.Loop 32) (ok : L.OK) (hL : L.trips = 125) (goff : Fin L.trips → Fin 1 → ℕ) (hgoff : ∀ k, goff k = ![16 * k.val])
    (ginb : ∀ k a, goff k a + S16.size a ≤ S2000.size a) {α : Type} (k : Acc F → Prog (TE F i) α) (Q : α → sProp 𝕄) :
    iprop(Transfers.MayWaits (TT d i) (none : HIx 1) O ∗ packs d i pk0 pk1 r0 r1 ∗ slotAt d i E C q Z n ∗ idle d i E C q' Z' ∗ owesW d i O W
        ∗ (packs d i pk0 pk1 r0 r1 ∗ idle d i E C q Z ∗ slotAt d i E C q' Z' m ∗ owesW d i O W
            -∗ wp frame (wpE (defs₀ (F := F)) 𝒱₀ (TT d i) none) Set.univ (k (accN d i E C r0 r1 (n + 1))) Q))
      ⊢ wp frame (wpE (defs₀ (F := F)) 𝒱₀ (TT d i) none) Set.univ
          (wait3 i E Z >>= fun _ => fetchIf i E Z' c off inb fun _ =>
            Scf.Loop.for L ok (accN d i E C r0 r1 n) (fun k acc => group i pk0 pk1 Z (goff k) (ginb k) acc) >>= k) Q := by
  rw [wp_bind, slotAt_of d i E C q Z hn]
  iintro ⟨#Hmw, Hpk, HZ, HZ', HO, HQ⟩
  iapply (wp_wait3 d i E C q Z (coff i n) (coff_inb i n hn) O W)
  isplitr; · iexact Hmw
  isplitl [HZ]; · iexact HZ
  isplitl [HO]; · iexact HO
  iintro ⟨HZ, Hsem, He, HO⟩
  iapply (wp_fetchIf d i E C q' Z' hc off hoff inb)
  isplitl [HZ']; · iexact HZ'
  iintro HZ'
  rw [wp_bind]
  iapply (wp_groups d i pk0 pk1 Z r0 r1 (chunk (vI d i E C) (cbase i n)) (chunk (vJ d i E C) (cbase i n)) (chunk (vW d i E C) (cbase i n))
    (fun x => hI _) (fun x => hJ _) L ok hL goff hgoff ginb)
  unfold packs holds reads
  icases Hpk with ⟨H0, H1⟩
  icases HZ with ⟨Hi, Hj, Hw⟩
  isplitl [H0 H1 Hi Hj Hw]
  · isplitl [H0]; · iexact H0
    isplitl [H1]; · iexact H1
    isplitl [Hi]; · iexact Hi
    isplitl [Hj]; · iexact Hj
    iexact Hw
  iintro ⟨H0, H1, Hi, Hj, Hw⟩
  iapply HQ
  isplitl [H0 H1]
  · isplitl [H0] <;> iassumption
  isplitl [Hi Hj Hw Hsem He]
  · unfold idle holds
    isplitl [Hi Hj Hw]
    · iexists _, _, _
      isplitl [Hi]; · iexact Hi
      isplitl [Hj]; · iexact Hj
      iexact Hw
    isplitl [Hsem] <;> iassumption
  isplitl [HZ'] <;> iassumption

variable (q0 q1 q2 q3 : PosShare TreeShare) (Z0 Z1 Z2 Z3 : Slot)

/-- What holds at the start of trip `t`. -/
def ring (t : ℕ) (a : Acc F) : sProp 𝕄 :=
  iprop(⌜a = accN d i E C r0 r1 (4 * t)⌝ ∗ packs d i pk0 pk1 r0 r1 ∗ slotAt d i E C q0 Z0 (4 * t) ∗ slotAt d i E C q1 Z1 (4 * t + 1) ∗ slotAt d i E C q2 Z2 (4 * t + 2)
    ∗ idle d i E C q3 Z3 ∗ owesW d i O W)

/-- One trip: four chunks. -/
theorem wp_trip (hI : ∀ x, (vI d i E C x).toNat < 50000) (hJ : ∀ x, (vJ d i E C x).toNat < 50000) (t : Fin k2_t1_loop.trips) (a : Acc F) :
    iprop(Transfers.MayWaits (TT d i) (none : HIx 1) O ∗ ring d i E C pk0 pk1 r0 r1 O W q0 q1 q2 q3 Z0 Z1 Z2 Z3 t.val a)
      ⊢ wp frame (wpE (defs₀ (F := F)) 𝒱₀ (TT d i) none) Set.univ (trip i pk0 pk1 E Z0 Z1 Z2 Z3 t a)
          fun a' => ring d i E C pk0 pk1 r0 r1 O W q0 q1 q2 q3 Z0 Z1 Z2 Z3 (t.val + 1) a' := by
  have ht : t.val < 25 := lt_of_lt_of_eq t.isLt trips1
  unfold ring
  iintro ⟨#Hmw, %ha, Hpk, H0, H1, H2, H3, HO⟩
  subst ha
  unfold trip
  iapply (wp_stage d i E C pk0 pk1 r0 r1 O W hI hJ q0 q3 Z0 Z3 (by omega) (cond1_iff t) (k2_off4 i t) (off4_eq i t) _ k2_t2_loop k2_t2_ok trips2 (fun k => k2_off5 k) k2_off5_eq (fun k => k2_off5_inb k))
  isplitr; · iexact Hmw
  isplitl [Hpk]; · iexact Hpk
  isplitl [H0]; · iexact H0
  isplitl [H3]; · iexact H3
  isplitl [HO]; · iexact HO
  iintro ⟨Hpk, H0, H3, HO⟩
  iapply (wp_stage d i E C pk0 pk1 r0 r1 O W hI hJ q1 q0 Z1 Z0 (n := 4 * t.val + 1) (by omega) (cond2_iff t) (k2_off6 i t) (off6_eq i t) _ k2_t3_loop k2_t3_ok trips3 (fun k => k2_off7 k) k2_off7_eq (fun k => k2_off7_inb k))
  isplitr; · iexact Hmw
  isplitl [Hpk]; · iexact Hpk
  isplitl [H1]; · iexact H1
  isplitl [H0]; · iexact H0
  isplitl [HO]; · iexact HO
  iintro ⟨Hpk, H1, H0, HO⟩
  iapply (wp_stage d i E C pk0 pk1 r0 r1 O W hI hJ q2 q1 Z2 Z1 (n := 4 * t.val + 2) (by omega) (cond3_iff t) (k2_off8 i t) (off8_eq i t) _ k2_t4_loop k2_t4_ok trips4 (fun k => k2_off9 k) k2_off9_eq (fun k => k2_off9_inb k))
  isplitr; · iexact Hmw
  isplitl [Hpk]; · iexact Hpk
  isplitl [H2]; · iexact H2
  isplitl [H1]; · iexact H1
  isplitl [HO]; · iexact HO
  iintro ⟨Hpk, H2, H1, HO⟩
  rw [← bind_pure (Scf.Loop.for k2_t5_loop k2_t5_ok _ _)]
  iapply (wp_stage d i E C pk0 pk1 r0 r1 O W hI hJ q3 q2 Z3 Z2 (n := 4 * t.val + 3) (by omega) (cond4_iff t) (k2_off10 i t) (off10_eq i t) _ k2_t5_loop k2_t5_ok trips5 (fun k => k2_off11 k) k2_off11_eq (fun k => k2_off11_inb k))
  isplitr; · iexact Hmw
  isplitl [Hpk]; · iexact Hpk
  isplitl [H3]; · iexact H3
  isplitl [H2]; · iexact H2
  isplitl [HO]; · iexact HO
  iintro ⟨Hpk, H3, H2, HO⟩
  rw [wp_pure]; imodintro
  rw [show 4 * (t.val + 1) = 4 * t.val + 4 from by omega]
  isplitr; · ipureintro; rfl
  isplitl [Hpk]; · iexact Hpk
  isplitl [H0]; · iexact H0
  isplitl [H1]; · iexact H1
  isplitl [H2]; · iexact H2
  isplitl [H3] <;> iassumption

/-- The loop: from three chunks in flight to four idle buffers and the sums over all hundred chunks. -/
theorem wp_loop (hI : ∀ x, (vI d i E C x).toNat < 50000) (hJ : ∀ x, (vJ d i E C x).toNat < 50000) (Q : Acc F → sProp 𝕄) :
    iprop(Transfers.MayWaits (TT d i) (none : HIx 1) O ∗ packs d i pk0 pk1 r0 r1 ∗ slotAt d i E C q0 Z0 0 ∗ slotAt d i E C q1 Z1 1 ∗ slotAt d i E C q2 Z2 2
        ∗ idle d i E C q3 Z3 ∗ owesW d i O W
        ∗ (packs d i pk0 pk1 r0 r1 ∗ idle d i E C q0 Z0 ∗ idle d i E C q1 Z1 ∗ idle d i E C q2 Z2 ∗ idle d i E C q3 Z3 ∗ owesW d i O W -∗ Q (accN d i E C r0 r1 100)))
      ⊢ wp frame (wpE (defs₀ (F := F)) 𝒱₀ (TT d i) none) Set.univ (Scf.Loop.for k2_t1_loop k2_t1_ok acc0 (trip i pk0 pk1 E Z0 Z1 Z2 Z3)) Q := by
  iintro ⟨#Hmw, Hpk, H0, H1, H2, H3, HO, HQ⟩
  iapply (Scf.wp_for frame (wpE (defs₀ (F := F)) 𝒱₀ (TT d i) none) Set.univ k2_t1_loop.lb k2_t1_loop.ub k2_t1_loop.st k2_t1_ok acc0 (trip i pk0 pk1 E Z0 Z1 Z2 Z3)
    (fun t a => iprop(Transfers.MayWaits (TT d i) (none : HIx 1) O ∗ ring d i E C pk0 pk1 r0 r1 O W q0 q1 q2 q3 Z0 Z1 Z2 Z3 t a)) ?hb)
  case hb =>
    intro t a
    iintro ⟨#Hmw, HR⟩
    iapply wp_frame_l
    isplitr; · iexact Hmw
    iapply (wp_trip d i E C pk0 pk1 r0 r1 O W q0 q1 q2 q3 Z0 Z1 Z2 Z3 hI hJ t a)
    isplitr; · iexact Hmw
    iexact HR
  rw [show Scf.trips k2_t1_loop.lb k2_t1_loop.ub k2_t1_loop.st = 25 from trips1]
  unfold ring
  isplitl [Hpk H0 H1 H2 H3 HO]
  · isplitr; · iexact Hmw
    isplitr; · ipureintro; rfl
    isplitl [Hpk]; · iexact Hpk
    isplitl [H0]; · iexact H0
    isplitl [H1]; · iexact H1
    isplitl [H2]; · iexact H2
    isplitl [H3] <;> iassumption
  iintro %a ⟨-, %ha, Hpk, H0, H1, H2, H3, HO⟩
  subst ha
  iapply HQ
  isplitl [Hpk]; · iexact Hpk
  isplitl [H0]; · iapply (slotAt_done d i E C q0 Z0 (by decide)) $$ H0
  isplitl [H1]; · iapply (slotAt_done d i E C q1 Z1 (by decide)) $$ H1
  isplitl [H2]; · iapply (slotAt_done d i E C q2 Z2 (by decide)) $$ H2
  isplitl [H3] <;> iassumption

end Cert.Proof.Ising

end
-- ==== Proof.Ends.lean ====
/-
  What a tile does before its loop and after it: three chunks started and two rows of the packed spins fetched; the four
  accumulators stored as the rows of a buffer and copied to the tile's rows of the result.
-/
module

public import proofs.«01_k».proof.Proof.Loop
public import Idealize.ShloMosaic.Lib.Writes
public import Idealize.ShloMosaic.Lib.Pipeline.Value

@[expose] public section

noncomputable section

namespace Cert.Proof.Ising

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Rows by number -/

/-- Place `k` of row `r` of the packed spins. -/
def ixX (r k : ℕ) : S8x50000.Idx := fun a => ⟨(![r, k] : Fin 2 → ℕ) a % S8x50000.size a, Nat.mod_lt _ (by revert a; decide)⟩
/-- Lane `k`. -/
def ixL (k : ℕ) : S16.Idx := fun a => ⟨k % S16.size a, Nat.mod_lt _ (by revert a; decide)⟩

/-- Row `r` of the packed spins. -/
def rowOf (X : Vec F S8x50000 .i32) (r : ℕ) : Vec F S50000 .i32 := fun x => X (ixX r (x 0).val)

/-- Accumulator `r` of four. -/
def pick (a : Acc F) (r : ℕ) : FVec F S16 .f32 := if r = 0 then a.1 else if r = 1 then a.2.1 else if r = 2 then a.2.2.1 else a.2.2.2

/-- The four accumulators as four rows. -/
def accRows (a : Acc F) : Vec F S4x16 .f32 := fun y => pick a (y 0).val (ixL (y 1).val)

/-- A squeezed row of the packed spins reads the row. -/
theorem read_prow (m : Memref sig .scVector .hbm S8x50000 .i32) (r : ℕ) (hr : r < 8) (off : Fin 2 → ℕ) (hoff : off = ![r, 0])
    (inb : ∀ a, off a + S1x50000.size a ≤ S8x50000.size a) (f : m.view.ty.Contents (Elt F)) :
    (prow m off inb).view.read (Elt F) f = rowOf (m.view.read (Elt F) f) r := by
  subst hoff
  funext x
  have hx : (x 0).val < 50000 := lt_of_lt_of_eq (x 0).isLt (s50000 0)
  show m.view.read (Elt F) f ((Rect.unit (s := S8x50000) ![r, 0] S1x50000.size inb).emb (Shape.reshapeEquiv _ x)) = m.view.read (Elt F) f (ixX r (x 0).val)
  congr 1; funext a; apply Fin.ext
  rw [ValueKit.rect_emb_unit_val]
  have e := Shape.reshapeEquiv_cons_one (n := 1) (d := ![50000]) rfl x
  refine (congrArg (fun z : S1x50000.Idx => (![r, 0] : Fin 2 → ℕ) a + (z a).val) e).trans ?_
  match a with
  | ⟨0, _⟩ => exact (Nat.mod_eq_of_lt (show r < 8 from hr)).symm
  | ⟨1, _⟩ => exact (Nat.zero_add _).trans (Nat.mod_eq_of_lt (show (x 0).val < 50000 from hx)).symm

/-- The buffer of four rows, after its four stores. -/
theorem read_rows (m : Memref sig .scVector .vmem S4x16 .f32) (a : Acc F) (f : m.view.ty.Contents (Elt F)) :
    m.view.read (Elt F) (m.view.writes (Elt F) f
      [⟨Rect.unit (s := S4x16) ![3, 0] S1x16.size inb_S4x16_S1x16_3_0, shapeCast S1x16 a.2.2.2 shapeCasts_S16_S1x16⟩,
       ⟨Rect.unit (s := S4x16) ![2, 0] S1x16.size inb_S4x16_S1x16_2_0, shapeCast S1x16 a.2.2.1 shapeCasts_S16_S1x16⟩,
       ⟨Rect.unit (s := S4x16) ![1, 0] S1x16.size inb_S4x16_S1x16_1_0, shapeCast S1x16 a.2.1 shapeCasts_S16_S1x16⟩,
       ⟨Rect.unit (s := S4x16) ![0, 0] S1x16.size inb_S4x16_S1x16_0_0, shapeCast S1x16 a.1 shapeCasts_S16_S1x16⟩]) = accRows a := by
  have key : ∀ (r : ℕ) (inb : ∀ b, (![r, 0] : Fin 2 → ℕ) b + S1x16.size b ≤ S4x16.size b) (v : FVec F S16 .f32) (_ : v = pick a r) (x : S1x16.Idx),
      shapeCast S1x16 v shapeCasts_S16_S1x16 x = accRows a ((Rect.unit (s := S4x16) ![r, 0] S1x16.size inb).emb x) := by
    intro r inb v hv x
    subst hv
    have h0 : (x 0).val = 0 := Nat.lt_one_iff.mp (x 0).isLt
    have h1 : (x 1).val < 16 := (x 1).isLt
    rw [show shapeCast S1x16 (pick a r) shapeCasts_S16_S1x16 x = pick a r (fun b => x b.succ) from shapeCast_addUnit_apply (n := 1) ![16] _ _ x]
    unfold accRows
    rw [ValueKit.rect_emb_unit_val, ValueKit.rect_emb_unit_val]
    show _ = pick a (r + (x 0).val) (ixL (0 + (x 1).val))
    rw [h0]
    congr 1
    funext b; apply Fin.ext
    rw [Subsingleton.elim b 0]
    show (x 1).val = (0 + (x 1).val) % 16
    rw [Nat.zero_add, Nat.mod_eq_of_lt h1]
  funext y
  refine View.read_writes_apply_of_pieces _ _ (accRows a) _ ?_ y ?_
  · intro p hp x
    simp only [List.mem_cons, List.not_mem_nil, or_false] at hp
    rcases hp with rfl | rfl | rfl | rfl
    · exact key 3 inb_S4x16_S1x16_3_0 _ rfl x
    · exact key 2 inb_S4x16_S1x16_2_0 _ rfl x
    · exact key 1 inb_S4x16_S1x16_1_0 _ rfl x
    · exact key 0 inb_S4x16_S1x16_0_0 _ rfl x
  · exact View.cover_of_tiled _ ![1, 16] rfl y

variable (d : Dev nD) (i : grid2.Coords) (E : Edges) (C : Conts F d i E) (O : CellTallies nD τ sig (HIx 1)) (W : Waits sig (HIx 1))

/-! ## Before the loop -/

section Before

variable (xp : Memref sig .scVector .hbm S8x50000 .i32) (pk0 : Memref sig .scVector .vmem S50000 .i32) (h0 : pk0.IsWhole) (pk1 : Memref sig .scVector .vmem S50000 .i32) (h1 : pk1.IsWhole)
  (rs : DmaSems sig S_) (Z0 Z1 Z2 : Slot) (q0 q1 q2 qa qb : PosShare TreeShare) (fX : Buf (Elt F) (xp.view.loc (TT d i)))

/-- The number of the first of a tile's two rows. -/
def rowNo (i : grid2.Coords) : ℕ := 2 * ((i 1).val % 4)

/-- What the two row copies deliver. -/
def rowD : Fin 2 → sProp 𝕄
  | ⟨0, _⟩ => iprop(own d i pk0 (rowOf (xp.view.read (Elt F) fX) (rowNo i)) ∗ (xp.view.loc (TT d i) ↦[(prow xp (k2_off2 i) (k2_off2_inb i)).view.set]{qa} fX))
  | ⟨1, _⟩ => iprop(own d i pk1 (rowOf (xp.view.read (Elt F) fX) (rowNo i + 1)) ∗ (xp.view.loc (TT d i) ↦[(prow xp (k2_off3 i) (k2_off3_inb i)).view.set]{qb} fX))

/-- What the row copies deliver may be stored in an invariant. -/
instance rowD_storable : ∀ t, Storable (upEmb : UEmb _ 𝕄) (rowD d i xp pk0 pk1 qa qb fX t)
  | ⟨0, _⟩ => by unfold rowD; infer_instance
  | ⟨1, _⟩ => by unfold rowD; infer_instance

/-- The two deliveries of the row copies, one by one. -/
theorem rowD_all :
    bigSep Finset.univ (rowD d i xp pk0 pk1 qa qb fX)
      ⊢ iprop(rowD d i xp pk0 pk1 qa qb fX ⟨0, by decide⟩ ∗ rowD d i xp pk0 pk1 qa qb fX ⟨1, by decide⟩) := by
  rw [Idealize.SL.BI.bigSep_univ_eq_bigSepL [0, 1] (by decide) (by decide) _]
  exact .rfl

/-- The units of a row's copy. -/
abbrev NR : ℕ := RefSig.bitCredit S50000 .i32
/-- A row copy credits `NR` units. -/
theorem creditR (m : Memref sig .scVector .vmem S50000 .i32) : m.view.dmaCredit = NR := rfl
/-- A row copy credits something. -/
theorem NR_pos : 0 < NR := by decide

/-- A row copy's landing delivers the buffer reading the row. -/
theorem landedRow (pk : Memref sig .scVector .vmem S50000 .i32) (r : ℕ) (hr : r < 8) (off : Fin 2 → ℕ) (hoff : off = ![r, 0])
    (inb : ∀ a, off a + S1x50000.size a ≤ S8x50000.size a) (q : PosShare TreeShare) (fd : Buf (Elt F) (pk.view.loc (TT d i))) :
    iprop((pk.view.loc (TT d i) ↦[Finset.univ]{fullShare} (pk.view.write (Elt F) fd (ReadAs.same.apply ((prow xp off inb).view.read (Elt F) fX)) Finset.univ))
        ∗ ((prow xp off inb).view.loc (TT d i) ↦[(prow xp off inb).view.set]{q} fX))
      ⊢ (iprop(own d i pk (rowOf (xp.view.read (Elt F) fX) r) ∗ (xp.view.loc (TT d i) ↦[(prow xp off inb).view.set]{q} fX)) : sProp 𝕄) := by
  unfold own rd
  iintro ⟨Hd, Hs⟩
  isplitl [Hd]
  · iexists (pk.view.write (Elt F) fd (ReadAs.same.apply ((prow xp off inb).view.read (Elt F) fX)) Finset.univ); isplitr
    · ipureintro; exact (View.read_write_univ (v := pk.view) fd _).trans (read_prow xp r hr off hoff inb fX)
    · iexact Hd
  · iexact Hs

/-- Before the loop: three chunks in flight, the two rows fetched. -/
theorem wp_prologue (Q : PUnit → sProp 𝕄) :
    iprop(Transfers.MayWaits (TT d i) (none : HIx 1) O ∗ idle d i E C q0 Z0 ∗ idle d i E C q1 Z1 ∗ idle d i E C q2 Z2
        ∗ (∃ v, own d i pk0 v) ∗ (∃ v, own d i pk1 v) ∗ semVal (TT d i, SemLoc.dma rs.sem) 0
        ∗ (xp.view.loc (TT d i) ↦{qa} fX) ∗ (xp.view.loc (TT d i) ↦{qb} fX) ∗ owesW d i O W
        ∗ (packs d i pk0 pk1 (rowOf (xp.view.read (Elt F) fX) (rowNo i)) (rowOf (xp.view.read (Elt F) fX) (rowNo i + 1))
            ∗ slotAt d i E C q0 Z0 0 ∗ slotAt d i E C q1 Z1 1 ∗ slotAt d i E C q2 Z2 2
            ∗ semVal (TT d i, SemLoc.dma rs.sem) 0 ∗ (xp.view.loc (TT d i) ↦{qa} fX) ∗ (xp.view.loc (TT d i) ↦{qb} fX) ∗ owesW d i O W -∗ Q ⟨⟩))
      ⊢ wp frame (wpE (defs₀ (F := F)) 𝒱₀ (TT d i) none) Set.univ (prologue i xp pk0 h0 pk1 h1 rs E Z0 Z1 Z2) Q := by
  have hrow : rowNo i + 1 < 8 := by unfold rowNo; omega
  rw [slotAt_of d i E C q0 Z0 (by decide), slotAt_of d i E C q1 Z1 (by decide), slotAt_of d i E C q2 Z2 (by decide)]
  unfold prologue
  iintro ⟨#Hmw, H0, H1, H2, ⟨%w0, Hp0⟩, ⟨%w1, Hp1⟩, Hsem, Ha, Hb, HO, HQ⟩
  simp only [off1_0, off1_1, off1_2]
  rw [wp_bind]
  iapply (wp_fetch3 d i E C q0 Z0)
  isplitl [H0]; · iexact H0
  iintro H0
  rw [wp_bind]
  iapply (wp_fetch3 d i E C q1 Z1)
  isplitl [H1]; · iexact H1
  iintro H1
  rw [wp_bind]
  iapply (wp_fetch3 d i E C q2 Z2)
  isplitl [H2]; · iexact H2
  iintro H2
  ihave Hp0' := (show own d i pk0 w0 ⊢ (iprop(∃ f, ⌜pk0.view.read (Elt F) f = w0⌝ ∗ (pk0.view.loc (TT d i) ↦{fullShare} f)) : sProp 𝕄) from .rfl) $$ Hp0
  ihave Hp1' := (show own d i pk1 w1 ⊢ (iprop(∃ f, ⌜pk1.view.read (Elt F) f = w1⌝ ∗ (pk1.view.loc (TT d i) ↦{fullShare} f)) : sProp 𝕄) from .rfl) $$ Hp1
  icases Hp0' with ⟨%g0, -, Hp0⟩
  icases Hp1' with ⟨%g1, -, Hp1⟩
  ihave Ha' := ((pointsTo_split_subset (Finset.subset_univ (prow xp (k2_off2 i) (k2_off2_inb i)).view.set)).1) $$ Ha
  ihave Hb' := ((pointsTo_split_subset (Finset.subset_univ (prow xp (k2_off3 i) (k2_off3_inb i)).view.set)).1) $$ Hb
  icases Ha' with ⟨Ha, Har⟩
  icases Hb' with ⟨Hb, Hbr⟩
  imod (Transfers.batch_alloc' (Lvl := ℕ) EC (TT d i) (none : HIx 1) NR (rowD d i xp pk0 pk1 qa qb fX) (sm := .dma rs.sem) (E := Set.univ)) $$ Hsem with HB
  simp only [Prog.lift, Prog.bind_op, Prog.bind_ret]
  iapply (Transfers.wp_dmaBatch EC 𝒱₀ (TT d i) none (sm := .dma rs.sem) (src := prow xp (k2_off2 i) (k2_off2_inb i)) (dst := pk0) (Sd := Finset.univ) (none : HIx 1) NR (creditR pk0) (Finset.subset_univ _)
    (D := rowD d i xp pk0 pk1 qa qb fX) (j := 0) (u := 0) (by decide) (Nat.zero_le _) (landedRow d i xp fX pk0 (rowNo i) (by omega) (k2_off2 i) (off2_eq i) (k2_off2_inb i) qa g0)) $$ [Ha Hp0 HB]
  · isplitl [Ha]; · iexact Ha
    isplitl [Hp0]; · iexact Hp0
    iexact HB
  iintro HB
  simp only [bind_of_ret]
  iapply (Transfers.wp_dmaBatch EC 𝒱₀ (TT d i) none (sm := .dma rs.sem) (src := prow xp (k2_off3 i) (k2_off3_inb i)) (dst := pk1) (Sd := Finset.univ) (none : HIx 1) NR (creditR pk1) (Finset.subset_univ _)
    (D := rowD d i xp pk0 pk1 qa qb fX) (j := 1) (u := 0) (by decide) (Nat.zero_le _) (landedRow d i xp fX pk1 (rowNo i + 1) hrow (k2_off3 i) (off3_eq i) (k2_off3_inb i) qb g1)) $$ [Hb Hp1 HB]
  · isplitl [Hb]; · iexact Hb
    isplitl [Hp1]; · iexact Hp1
    iexact HB
  iintro HB
  simp only [bind_of_ret]
  unfold owesW
  icases HO with ⟨%W', %hW, HO⟩
  ihave Hm := (Transfers.MayWaits.elim (SemLoc.dma rs.sem)) $$ Hmw
  iapply (Transfers.wp_waitBatchO EC 𝒱₀ (TT d i) none (dstw := pk0) (none : HIx 1) (creditR pk0) (D := rowD d i xp pk0 pk1 qa qb fX) (u := 0) (by decide)) $$ [HB HO Hm]
  · isplitl [HB]; · iexact HB
    isplitl [HO]; · iexact HO
    iexact Hm
  iintro ⟨HB, HO⟩
  simp only [bind_of_ret]
  ihave Hm := (Transfers.MayWaits.elim (SemLoc.dma rs.sem)) $$ Hmw
  iapply (Transfers.wp_waitBatchLastO EC 𝒱₀ (TT d i) none (dstw := pk1) (none : HIx 1) (creditR pk1) NR_pos (D := rowD d i xp pk0 pk1 qa qb fX) (u := 0 + NR) (by decide)) $$ [HB HO Hm]
  · isplitl [HB]; · iexact HB
    isplitl [HO]; · iexact HO
    iexact Hm
  iintro ⟨HD, Hsem, HO⟩
  ihave HD' := (rowD_all d i xp pk0 pk1 qa qb fX) $$ HD
  unfold rowD
  icases HD' with ⟨⟨Hp0, Ha⟩, ⟨Hp1, Hb⟩⟩
  rw [wp_ret]; imodintro
  iapply HQ
  unfold packs
  isplitl [Hp0 Hp1]
  · isplitl [Hp0]; · iexact Hp0
    iexact Hp1
  isplitl [H0]; · iexact H0
  isplitl [H1]; · iexact H1
  isplitl [H2]; · iexact H2
  isplitl [Hsem]; · iexact Hsem
  isplitl [Ha Har]
  · iapply ((pointsTo_split_subset (Finset.subset_univ (prow xp (k2_off2 i) (k2_off2_inb i)).view.set)).2)
    isplitl [Ha] <;> iassumption
  isplitl [Hb Hbr]
  · iapply ((pointsTo_split_subset (Finset.subset_univ (prow xp (k2_off3 i) (k2_off3_inb i)).view.set)).2)
    isplitl [Hb] <;> iassumption
  iexists (insert (SemLoc.dma rs.sem, (none : HIx 1)) (insert (SemLoc.dma rs.sem, (none : HIx 1)) W')); isplitr
  · ipureintro; exact mem_ins (mem_ins hW)
  · iexact HO

end Before

/-! ## After the loop -/

section After

variable (out : Memref sig .scVector .hbm S32x4x16 .f32) (ov : Memref sig .scVector .vmem S4x16 .f32) (hov : ov.IsWhole) (os : DmaSems sig S_) (a : Acc F)

/-- A tile's rows of the result. -/
abbrev outRow : Memref sig .scVector .hbm S4x16 .f32 := orow out (k2_off12 i) (k2_off12_inb i)

/-- A tile's rows of the result, holding the four accumulators `a`. -/
def outHas : sProp 𝕄 := iprop(∃ f, ⌜(outRow i out).view.read (Elt F) f = accRows a⌝ ∗ (out.view.loc (TT d i) ↦[(outRow i out).view.set]{fullShare} f))

/-- The filled rows may be stored in an invariant. -/
instance outHas_storable : Storable (upEmb : UEmb _ 𝕄) (outHas d i out a) := by unfold outHas; infer_instance

/-- The units of the result's copy. -/
abbrev NO : ℕ := RefSig.bitCredit S4x16 .f32
/-- The result's copy credits `NO` units. -/
theorem creditO (m : Memref sig .scVector .hbm S4x16 .f32) : m.view.dmaCredit = NO := rfl
/-- The result's copy credits something. -/
theorem NO_pos : 0 < NO := by decide

/-- One accumulator stored as a row, over the rows stored so far. -/
theorem wp_put (off : Fin 2 → ℕ) (inb : ∀ b, off b + S1x16.size b ≤ S4x16.size b) (v : FVec F S16 .f32) (g : Buf (Elt F) (ov.view.loc (TT d i)))
    (L : List (View.Piece (Elt F) S4x16 .f32)) (Q : PUnit → sProp 𝕄) :
    iprop((ov.view.loc (TT d i) ↦{fullShare} ov.view.writes (Elt F) g L)
        ∗ ((ov.view.loc (TT d i) ↦{fullShare} ov.view.writes (Elt F) g (⟨Rect.unit (s := S4x16) off S1x16.size inb, shapeCast S1x16 v shapeCasts_S16_S1x16⟩ :: L)) -∗ Q ⟨⟩))
      ⊢ wp frame (wpE (defs₀ (F := F)) 𝒱₀ (TT d i) none) Set.univ (put i ov off inb v) Q := by
  unfold put
  iintro ⟨H, HQ⟩
  simp only [Prog.lift, Prog.bind_op, Prog.bind_ret]
  iapply (wp_load 𝒱₀ (TT d i) none Set.univ (m := ov) (S := Finset.univ) (Finset.subset_univ _)) $$ H
  iintro H
  simp only [bind_of_ret]
  iapply (wp_store_writes 𝒱₀ (TT d i) none Set.univ (m := ov) (r := Rect.unit (s := S4x16) off S1x16.size inb) (w := shapeCast S1x16 v shapeCasts_S16_S1x16) (f := g) (L := L) (S := Finset.univ) (Finset.subset_univ _)) $$ H
  iintro H
  rw [wp_ret]; imodintro
  iapply HQ; iexact H

/-- The copy's landing delivers the tile's rows. -/
theorem landedOut (fo : Buf (Elt F) (out.view.loc (TT d i))) (g : Buf (Elt F) (ov.view.loc (TT d i))) (hg : ov.view.read (Elt F) g = accRows a) :
    iprop(((outRow i out).view.loc (TT d i) ↦[(outRow i out).view.set]{fullShare} ((outRow i out).view.write (Elt F) fo (ReadAs.same.apply (ov.view.read (Elt F) g)) Finset.univ))
        ∗ (ov.view.loc (TT d i) ↦[ov.view.set]{fullShare} g))
      ⊢ iprop(outHas d i out a ∗ (ov.view.loc (TT d i) ↦[ov.view.set]{fullShare} g)) := by
  unfold outHas
  iintro ⟨Hd, Hs⟩
  isplitl [Hd]
  · iexists ((outRow i out).view.write (Elt F) fo (ReadAs.same.apply (ov.view.read (Elt F) g)) Finset.univ); isplitr
    · ipureintro; exact (View.read_write_univ (v := (outRow i out).view) fo _).trans hg
    · iexact Hd
  · iexact Hs

/-- The buffer of four rows, the four stores done. -/
theorem rows_own (g : Buf (Elt F) (ov.view.loc (TT d i))) :
    (ov.view.loc (TT d i) ↦{fullShare} ov.view.writes (Elt F) g
      [⟨Rect.unit (s := S4x16) ![3, 0] S1x16.size inb_S4x16_S1x16_3_0, shapeCast S1x16 a.2.2.2 shapeCasts_S16_S1x16⟩,
       ⟨Rect.unit (s := S4x16) ![2, 0] S1x16.size inb_S4x16_S1x16_2_0, shapeCast S1x16 a.2.2.1 shapeCasts_S16_S1x16⟩,
       ⟨Rect.unit (s := S4x16) ![1, 0] S1x16.size inb_S4x16_S1x16_1_0, shapeCast S1x16 a.2.1 shapeCasts_S16_S1x16⟩,
       ⟨Rect.unit (s := S4x16) ![0, 0] S1x16.size inb_S4x16_S1x16_0_0, shapeCast S1x16 a.1 shapeCasts_S16_S1x16⟩])
      ⊢ (iprop(∃ g', ⌜ov.view.read (Elt F) g' = accRows a⌝ ∗ (ov.view.loc (TT d i) ↦{fullShare} g')) : sProp 𝕄) := by
  have h := read_rows ov a g
  generalize View.writes ov.view (Elt F) g _ = g' at h ⊢
  iintro H
  iexists g'
  isplitr
  · ipureintro; exact h
  · iexact H

/-- After the loop: the accumulators stored and copied to the tile's rows. -/
theorem wp_epilogue (fo : Buf (Elt F) (out.view.loc (TT d i))) (Q : PUnit → sProp 𝕄) :
    iprop(Transfers.MayWaits (TT d i) (none : HIx 1) O ∗ (∃ v, own d i ov v) ∗ (out.view.loc (TT d i) ↦[(outRow i out).view.set]{fullShare} fo)
        ∗ semVal (TT d i, SemLoc.dma os.sem) 0 ∗ owesW d i O W
        ∗ (outHas d i out a ∗ (∃ v, own d i ov v) ∗ semVal (TT d i, SemLoc.dma os.sem) 0 ∗ owesW d i O W -∗ Q ⟨⟩))
      ⊢ wp frame (wpE (defs₀ (F := F)) 𝒱₀ (TT d i) none) Set.univ (epilogue i out ov hov os a) Q := by
  unfold epilogue
  iintro ⟨#Hmw, ⟨%v, Hov⟩, Hout, Hsem, HO, HQ⟩
  ihave Hov' := (show own d i ov v ⊢ (iprop(∃ f, ⌜ov.view.read (Elt F) f = v⌝ ∗ (ov.view.loc (TT d i) ↦{fullShare} f)) : sProp 𝕄) from .rfl) $$ Hov
  icases Hov' with ⟨%g, -, Hov⟩
  rw [wp_bind]
  iapply (wp_put d i ov ![0, 0] inb_S4x16_S1x16_0_0 a.1 g []) $$ [Hov HQ Hout Hsem HO]
  isplitl [Hov]; · iexact Hov
  iintro Hov
  rw [wp_bind]
  iapply (wp_put d i ov ![1, 0] inb_S4x16_S1x16_1_0 a.2.1 g _) $$ [Hov HQ Hout Hsem HO]
  isplitl [Hov]; · iexact Hov
  iintro Hov
  rw [wp_bind]
  iapply (wp_put d i ov ![2, 0] inb_S4x16_S1x16_2_0 a.2.2.1 g _) $$ [Hov HQ Hout Hsem HO]
  isplitl [Hov]; · iexact Hov
  iintro Hov
  rw [wp_bind]
  iapply (wp_put d i ov ![3, 0] inb_S4x16_S1x16_3_0 a.2.2.2 g _) $$ [Hov HQ Hout Hsem HO]
  isplitl [Hov]; · iexact Hov
  iintro Hov
  ihave Hov4 := (rows_own d i ov a g) $$ Hov
  icases Hov4 with ⟨%g4, %hg4, Hov⟩
  ihave Hov' := ((pointsTo_split_subset (Finset.subset_univ ov.view.set)).1) $$ Hov
  icases Hov' with ⟨Hov, Hovr⟩
  simp only [Prog.lift, Prog.bind_op, Prog.bind_ret]
  iapply (Transfers.wp_dmaLocal EC 𝒱₀ (TT d i) none (sm := .dma os.sem) (src := ov) (dst := outRow i out) (Sd := (outRow i out).view.set) (none : HIx 1) NO (creditO (outRow i out)) NO_pos subset_rfl) $$ [Hov Hout Hsem]
  · isplitl [Hov]; · iexact Hov
    isplitl [Hout]; · iexact Hout
    iexact Hsem
  iintro HF
  simp only [bind_of_ret]
  unfold owesW
  icases HO with ⟨%W', %hW, HO⟩
  ihave Hm := (Transfers.MayWaits.elim (SemLoc.dma os.sem)) $$ Hmw
  iapply (Transfers.wp_waitLocalO EC 𝒱₀ (TT d i) none (none : HIx 1) (creditO (outRow i out))) $$ [HF HO Hm]
  · isplitl [HF]; · iexact HF
    isplitl [HO]; · iexact HO
    iexact Hm
  iintro ⟨HD, Hsem, HO⟩
  ihave HD' := (landedOut d i out ov a fo g4 hg4) $$ HD
  icases HD' with ⟨Hout, Hov⟩
  rw [wp_ret]; imodintro
  iapply HQ
  isplitl [Hout]; · iexact Hout
  isplitl [Hov Hovr]
  · iexists _; unfold own rd; iexists _; isplitr; swap
    · iapply ((pointsTo_split_subset (Finset.subset_univ ov.view.set)).2)
      isplitl [Hov] <;> iassumption
    · ipureintro; rfl
  isplitl [Hsem]; · iexact Hsem
  iexists (insert (SemLoc.dma os.sem, (none : HIx 1)) W'); isplitr
  · ipureintro; exact mem_ins hW
  · iexact HO

end After

end Cert.Proof.Ising

end
-- ==== Proof.Tile.lean ====
/-
  A tile's whole body: from its scratch buffers and semaphores, a share of the arrays it reads and its rows of the result, to
  the same with its rows holding the four accumulators.
-/
module

public import proofs.«01_k».proof.Proof.Ends

@[expose] public section

noncomputable section

namespace Cert.Proof.Ising

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (shareTok shareDrop)

variable {F : FTy → Type} [FloatOps F]

local notation "𝕄" => MT nD τ sig (HIx 1) (Elt F) ℕ UU ℕ

/-! ## The memrefs of the call -/

/-- The packed spins. -/
abbrev mX : Memref sig .scVector .hbm S8x50000 .i32 := Memref.whole main_v0_scv
/-- The call's result. -/
abbrev mO : Memref sig .scVector .hbm S32x4x16 .f32 := Memref.whole main_v3_scv
/-- The three edge arrays. -/
abbrev eE : Edges := ⟨Memref.whole main_arg3_scv, Memref.whole main_arg4_scv, Memref.whole main_arg2_scv⟩
/-- The tile's buffer for its first packed row. -/
abbrev pA : Memref sig .scVector .vmem S50000 .i32 := Memref.whole cc2_scratch0
/-- The tile's buffer for its second packed row. -/
abbrev pB : Memref sig .scVector .vmem S50000 .i32 := Memref.whole cc2_scratch1
/-- The ring's first buffer. -/
abbrev zA : Slot := ⟨Memref.whole cc2_scratch2, Memref.isWhole_whole _, Memref.whole cc2_scratch6, Memref.isWhole_whole _, Memref.whole cc2_scratch10, Memref.isWhole_whole _, cc2_scratch15⟩
/-- The ring's second buffer. -/
abbrev zB : Slot := ⟨Memref.whole cc2_scratch3, Memref.isWhole_whole _, Memref.whole cc2_scratch7, Memref.isWhole_whole _, Memref.whole cc2_scratch11, Memref.isWhole_whole _, cc2_scratch16⟩
/-- The ring's third buffer. -/
abbrev zC : Slot := ⟨Memref.whole cc2_scratch4, Memref.isWhole_whole _, Memref.whole cc2_scratch8, Memref.isWhole_whole _, Memref.whole cc2_scratch12, Memref.isWhole_whole _, cc2_scratch17⟩
/-- The ring's fourth buffer. -/
abbrev zD : Slot := ⟨Memref.whole cc2_scratch5, Memref.isWhole_whole _, Memref.whole cc2_scratch9, Memref.isWhole_whole _, Memref.whole cc2_scratch13, Memref.isWhole_whole _, cc2_scratch18⟩
/-- The tile's buffer for its four accumulators. -/
abbrev mV : Memref sig .scVector .vmem S4x16 .f32 := Memref.whole cc2_scratch14

variable (d : Dev nD) (i : grid2.Coords) (C : Conts F d i eE) (O : CellTallies nD τ sig (HIx 1)) (W : Waits sig (HIx 1))
variable (q0 q1 q2 q3 qa qb : PosShare TreeShare) (fX : Buf (Elt F) (mX.view.loc (TT d i)))

/-- The four accumulators of tile `i` after its hundred chunks, from the packed spins and the edge arrays. -/
def tileAcc : Acc F :=
  accN d i eE C (rowOf (mX.view.read (Elt F) fX) (rowNo i)) (rowOf (mX.view.read (Elt F) fX) (rowNo i + 1)) 100

/-- What the body takes and gives back: its buffers, its semaphores at zero, its shares of the arrays it reads. -/
def kept : sProp 𝕄 :=
  iprop((∃ v, own d i pA v) ∗ (∃ v, own d i pB v) ∗ (∃ v, own d i mV v) ∗ semVal (TT d i, SemLoc.dma cc2_scratch19.sem) 0 ∗ semVal (TT d i, SemLoc.dma cc2_scoped0.sem) 0
    ∗ idle d i eE C q0 zA ∗ idle d i eE C q1 zB ∗ idle d i eE C q2 zC ∗ idle d i eE C q3 zD
    ∗ (mX.view.loc (TT d i) ↦{qa} fX) ∗ (mX.view.loc (TT d i) ↦{qb} fX))

/-- The body of the call at tile `i`. -/
abbrev bodyAt : Prog (TE F i) PUnit :=
  cc2_body (F := F) i mX (Memref.isWhole_whole _) (Memref.whole main_arg2_scv) (Memref.isWhole_whole _) (Memref.whole main_arg3_scv) (Memref.isWhole_whole _)
    (Memref.whole main_arg4_scv) (Memref.isWhole_whole _) mO (Memref.isWhole_whole _) pA (Memref.isWhole_whole _) pB (Memref.isWhole_whole _)
    (Memref.whole cc2_scratch2) (Memref.isWhole_whole _) (Memref.whole cc2_scratch3) (Memref.isWhole_whole _) (Memref.whole cc2_scratch4) (Memref.isWhole_whole _) (Memref.whole cc2_scratch5) (Memref.isWhole_whole _)
    (Memref.whole cc2_scratch6) (Memref.isWhole_whole _) (Memref.whole cc2_scratch7) (Memref.isWhole_whole _) (Memref.whole cc2_scratch8) (Memref.isWhole_whole _) (Memref.whole cc2_scratch9) (Memref.isWhole_whole _)
    (Memref.whole cc2_scratch10) (Memref.isWhole_whole _) (Memref.whole cc2_scratch11) (Memref.isWhole_whole _) (Memref.whole cc2_scratch12) (Memref.isWhole_whole _) (Memref.whole cc2_scratch13) (Memref.isWhole_whole _)
    mV (Memref.isWhole_whole _) cc2_scratch15 cc2_scratch16 cc2_scratch17 cc2_scratch18 cc2_scratch19 cc2_scoped0

/-- The body is the copies made ahead, the loop over the chunks and the storing of the accumulators. -/
theorem bodyAt_eq : bodyAt (F := F) i
    = prologue i mX pA (Memref.isWhole_whole _) pB (Memref.isWhole_whole _) cc2_scratch19 eE zA zB zC >>= fun _ =>
        Scf.Loop.for k2_t1_loop k2_t1_ok acc0 (trip i pA pB eE zA zB zC zD) >>= fun a => epilogue i mO mV (Memref.isWhole_whole _) cc2_scoped0 a :=
  body_eq (F := F) i mX (Memref.isWhole_whole _) (Memref.whole main_arg2_scv) (Memref.isWhole_whole _) (Memref.whole main_arg3_scv) (Memref.isWhole_whole _)
    (Memref.whole main_arg4_scv) (Memref.isWhole_whole _) mO (Memref.isWhole_whole _) pA (Memref.isWhole_whole _) pB (Memref.isWhole_whole _)
    (Memref.whole cc2_scratch2) (Memref.isWhole_whole _) (Memref.whole cc2_scratch3) (Memref.isWhole_whole _) (Memref.whole cc2_scratch4) (Memref.isWhole_whole _) (Memref.whole cc2_scratch5) (Memref.isWhole_whole _)
    (Memref.whole cc2_scratch6) (Memref.isWhole_whole _) (Memref.whole cc2_scratch7) (Memref.isWhole_whole _) (Memref.whole cc2_scratch8) (Memref.isWhole_whole _) (Memref.whole cc2_scratch9) (Memref.isWhole_whole _)
    (Memref.whole cc2_scratch10) (Memref.isWhole_whole _) (Memref.whole cc2_scratch11) (Memref.isWhole_whole _) (Memref.whole cc2_scratch12) (Memref.isWhole_whole _) (Memref.whole cc2_scratch13) (Memref.isWhole_whole _)
    mV (Memref.isWhole_whole _) cc2_scratch15 cc2_scratch16 cc2_scratch17 cc2_scratch18 cc2_scratch19 cc2_scoped0

/-- The body runs, and leaves its rows of the result holding the four accumulators. -/
theorem wp_body (hI : ∀ x, (vI d i eE C x).toNat < 50000) (hJ : ∀ x, (vJ d i eE C x).toNat < 50000) (fo : Buf (Elt F) (mO.view.loc (TT d i))) (Q : PUnit → sProp 𝕄) :
    iprop(Transfers.MayWaits (TT d i) (none : HIx 1) O ∗ kept d i C q0 q1 q2 q3 qa qb fX ∗ (mO.view.loc (TT d i) ↦[(outRow i mO).view.set]{fullShare} fo) ∗ owesW d i O W
        ∗ (kept d i C q0 q1 q2 q3 qa qb fX ∗ outHas d i mO (tileAcc d i C fX) ∗ owesW d i O W -∗ Q ⟨⟩))
      ⊢ wp frame (wpE (defs₀ (F := F)) 𝒱₀ (TT d i) none) Set.univ (bodyAt (F := F) i) Q := by
  rw [bodyAt_eq, wp_bind]
  unfold kept
  iintro ⟨#Hmw, ⟨Hp0, Hp1, Hov, Hrs, Hos, H0, H1, H2, H3, Ha, Hb⟩, Hout, HO, HQ⟩
  iapply (wp_prologue d i eE C O W mX pA (Memref.isWhole_whole _) pB (Memref.isWhole_whole _) cc2_scratch19 zA zB zC q0 q1 q2 qa qb fX)
  isplitr; · iexact Hmw
  isplitl [H0]; · iexact H0
  isplitl [H1]; · iexact H1
  isplitl [H2]; · iexact H2
  isplitl [Hp0]; · iexact Hp0
  isplitl [Hp1]; · iexact Hp1
  isplitl [Hrs]; · iexact Hrs
  isplitl [Ha]; · iexact Ha
  isplitl [Hb]; · iexact Hb
  isplitl [HO]; · iexact HO
  iintro ⟨Hpk, H0, H1, H2, Hrs, Ha, Hb, HO⟩
  rw [wp_bind]
  iapply (wp_loop d i eE C pA pB (rowOf (mX.view.read (Elt F) fX) (rowNo i)) (rowOf (mX.view.read (Elt F) fX) (rowNo i + 1)) O W q0 q1 q2 q3 zA zB zC zD hI hJ)
  isplitr; · iexact Hmw
  isplitl [Hpk]; · iexact Hpk
  isplitl [H0]; · iexact H0
  isplitl [H1]; · iexact H1
  isplitl [H2]; · iexact H2
  isplitl [H3]; · iexact H3
  isplitl [HO]; · iexact HO
  iintro ⟨Hpk, H0, H1, H2, H3, HO⟩
  iapply (wp_epilogue d i O W mO mV (Memref.isWhole_whole _) cc2_scoped0 (tileAcc d i C fX) fo)
  isplitr; · iexact Hmw
  isplitl [Hov]; · iexact Hov
  isplitl [Hout]; · iexact Hout
  isplitl [Hos]; · iexact Hos
  isplitl [HO]; · iexact HO
  iintro ⟨Hout, Hov, Hos, HO⟩
  iapply HQ
  unfold packs
  icases Hpk with ⟨Hp0, Hp1⟩
  isplitr [Hout HO]
  · isplitl [Hp0]; · iexists _; iexact Hp0
    isplitl [Hp1]; · iexists _; iexact Hp1
    isplitl [Hov]; · iexact Hov
    isplitl [Hrs]; · iexact Hrs
    isplitl [Hos]; · iexact Hos
    isplitl [H0]; · iexact H0
    isplitl [H1]; · iexact H1
    isplitl [H2]; · iexact H2
    isplitl [H3]; · iexact H3
    isplitl [Ha]; · iexact Ha
    iexact Hb
  isplitl [Hout]; · iexact Hout
  iexact HO

/-! ## The tile's own storage -/

/-- The tile's scratch buffers. -/
def scr : Fin 15 → Ref sig .scVector :=
  ![cc2_scratch0, cc2_scratch1, cc2_scratch2, cc2_scratch3, cc2_scratch4, cc2_scratch5, cc2_scratch6, cc2_scratch7, cc2_scratch8, cc2_scratch9, cc2_scratch10, cc2_scratch11, cc2_scratch12, cc2_scratch13, cc2_scratch14]

/-- The fifteen buffers are distinct. -/
theorem scr_inj : Function.Injective scr := by decide

/-- The tile's semaphores. -/
def sms : Fin 6 → SemLoc sig :=
  ![SemLoc.dma cc2_scratch15.sem, SemLoc.dma cc2_scratch16.sem, SemLoc.dma cc2_scratch17.sem, SemLoc.dma cc2_scratch18.sem, SemLoc.dma cc2_scratch19.sem, SemLoc.dma cc2_scoped0.sem]

/-- The six semaphores are distinct. -/
theorem sms_inj : Function.Injective sms := by decide
/-- Each semaphore belongs to the tile's scope. -/
theorem sms_scoped : ∀ k, (sms k).isScoped .scVector = true := by decide
/-- Each buffer is the tile's own. -/
theorem scr_owner : ∀ k, ((Proc.scVector (cV i) (jV i) : Proc τ).devRef (scr k) : DevRef τ sig).owner = .proc (Proc.scVector (cV i) (jV i)) := by
  intro k; fin_cases k <;> rfl

/-- A buffer of the tile whole, at some contents. -/
abbrev buf (r : Ref sig .scVector) : sProp 𝕄 := iprop(∃ f, ((TT d i).loc r) ↦{fullShare} f)
/-- A semaphore of the tile at zero. -/
abbrev zero (s : SemLoc sig) : sProp 𝕄 := semVal (TT d i, s) 0

/-- Of the members of a set, those a list without repetition names, and the rest. -/
theorem named_rest {α β : Type} [DecidableEq α] [Fintype β] [DecidableEq β] {s : Finset α} {f : β → α} (inj : Function.Injective f) (sub : ∀ b, f b ∈ s) (Φ : α → sProp 𝕄) :
    bigSep s Φ = iprop(bigSep Finset.univ (fun b => Φ (f b)) ∗ bigSep (s \ Finset.univ.image f) Φ) := by
  have h : Finset.univ.image f ⊆ s := fun x hx => by obtain ⟨b, -, rfl⟩ := Finset.mem_image.mp hx; exact sub b
  rw [BI.bigSep_sdiff_split h, bigSep_image_of_injOn inj.injOn]; rfl

/-- The scratch buffers among the tile's own. -/
theorem bufs_open : (ownBufs (TT d i) : sProp 𝕄) = iprop(bigSep Finset.univ (fun k => buf (F := F) d i (scr k))
    ∗ bigSep (ownRefs (TT d i).2 \ Finset.univ.image fun k => (Proc.scVector (cV i) (jV i) : Proc τ).devRef (scr k)) fun b => iprop(∃ f, (((TT d i).1, b) : Loc nD τ sig) ↦{fullShare} f)) := by
  unfold ownBufs
  exact named_rest (f := fun k => (Proc.scVector (cV i) (jV i) : Proc τ).devRef (scr k)) (fun a b e => scr_inj (Proc.devRef_injective _ e)) (fun k => mem_ownRefs_of_owner (scr_owner i k)) _

/-- The DMA semaphores among the tile's own. -/
theorem sems_open : (ownSems0 (TT d i) : sProp 𝕄) = iprop(bigSep Finset.univ (fun k => zero (F := F) d i (sms k))
    ∗ bigSep (ownCells (TT d i) \ Finset.univ.image fun k => ((TT d i, sms k) : GSem nD τ sig)) fun g => semVal g 0) := by
  unfold ownSems0
  exact named_rest (f := fun k => ((TT d i, sms k) : GSem nD τ sig)) (fun a b e => sms_inj (congrArg Prod.snd e)) (fun k => mem_ownCells.mpr ⟨rfl, sms_scoped k⟩) _

/-- The fifteen buffers one by one. -/
theorem bufs_list : bigSep Finset.univ (fun k => buf (F := F) d i (scr k))
    = iprop(buf d i cc2_scratch0 ∗ buf d i cc2_scratch1 ∗ buf d i cc2_scratch2 ∗ buf d i cc2_scratch3 ∗ buf d i cc2_scratch4 ∗ buf d i cc2_scratch5 ∗ buf d i cc2_scratch6 ∗ buf d i cc2_scratch7
        ∗ buf d i cc2_scratch8 ∗ buf d i cc2_scratch9 ∗ buf d i cc2_scratch10 ∗ buf d i cc2_scratch11 ∗ buf d i cc2_scratch12 ∗ buf d i cc2_scratch13 ∗ buf d i cc2_scratch14) := by
  rw [Idealize.SL.BI.bigSep_univ_eq_bigSepL [0, 1, 2, 3, 4, 5, 6, 7, 8, 9, 10, 11, 12, 13, 14] (by decide) (by decide) _]
  rfl

/-- The six semaphores one by one. -/
theorem sems_list : bigSep Finset.univ (fun k => zero (F := F) d i (sms k))
    = iprop(zero d i (.dma cc2_scratch15.sem) ∗ zero d i (.dma cc2_scratch16.sem) ∗ zero d i (.dma cc2_scratch17.sem) ∗ zero d i (.dma cc2_scratch18.sem) ∗ zero d i (.dma cc2_scratch19.sem) ∗ zero d i (.dma cc2_scoped0.sem)) := by
  rw [Idealize.SL.BI.bigSep_univ_eq_bigSepL [0, 1, 2, 3, 4, 5] (by decide) (by decide) _]
  rfl

/-- A buffer at some contents is its memref read at some value. -/
theorem own_of_buf {cs : Space} {s : Shape} {e : EltTy} (m : Memref sig .scVector cs s e) :
    (iprop(∃ f, m.view.loc (TT d i) ↦{fullShare} f) : sProp 𝕄) ⊢ iprop(∃ v, own d i m v) := by
  iintro ⟨%f, H⟩
  iexists _; unfold own rd; iexists f; isplitr; swap
  · iexact H
  · ipureintro; rfl

/-- A memref read at some value is its buffer at some contents. -/
theorem buf_of_own {cs : Space} {s : Shape} {e : EltTy} (m : Memref sig .scVector cs s e) :
    (iprop(∃ v, own d i m v) : sProp 𝕄) ⊢ iprop(∃ f, m.view.loc (TT d i) ↦{fullShare} f) := by
  unfold own rd
  iintro ⟨%v, %f, -, H⟩
  iexists f; iexact H

/-! ## The scratch and the shares, opened and closed -/

/-- Everything of the tile's own that its body does not name. -/
def others : sProp 𝕄 :=
  iprop((bigSep (ownRefs (TT d i).2 \ Finset.univ.image fun k => (Proc.scVector (cV i) (jV i) : Proc τ).devRef (scr k)) fun b => iprop(∃ f, (((TT d i).1, b) : Loc nD τ sig) ↦{fullShare} f))
    ∗ (bigSep (ownCells (TT d i) \ Finset.univ.image fun k => ((TT d i, sms k) : GSem nD τ sig)) fun g => semVal g 0))

/-- An idle buffer of the ring from its three buffers, its semaphore and a share of the edge arrays. -/
theorem idle_iff (q : PosShare TreeShare) (Z : Slot) :
    (idle d i eE C q Z : sProp 𝕄) ⊣⊢ iprop((∃ f, Z.bi.view.loc (TT d i) ↦{fullShare} f) ∗ (∃ f, Z.bj.view.loc (TT d i) ↦{fullShare} f) ∗ (∃ f, Z.bw.view.loc (TT d i) ↦{fullShare} f)
      ∗ semVal (TT d i, SemLoc.dma Z.sem.sem) 0 ∗ eds d i eE C q) := by
  unfold idle holds
  constructor
  · iintro ⟨⟨%ci, %cj, %cw, Hi, Hj, Hw⟩, Hs, He⟩
    isplitl [Hi]; · iapply (buf_of_own d i Z.bi); iexists ci; iexact Hi
    isplitl [Hj]; · iapply (buf_of_own d i Z.bj); iexists cj; iexact Hj
    isplitl [Hw]; · iapply (buf_of_own d i Z.bw); iexists cw; iexact Hw
    isplitl [Hs]; · iexact Hs
    iexact He
  · iintro ⟨Hi, Hj, Hw, Hs, He⟩
    ihave Hi' := (own_of_buf d i Z.bi) $$ Hi
    icases Hi' with ⟨%ci, Hi⟩
    ihave Hj' := (own_of_buf d i Z.bj) $$ Hj
    icases Hj' with ⟨%cj, Hj⟩
    ihave Hw' := (own_of_buf d i Z.bw) $$ Hw
    icases Hw' with ⟨%cw, Hw⟩
    isplitr [Hs He]
    · iexists ci, cj, cw
      isplitl [Hi]; · iexact Hi
      isplitl [Hj]; · iexact Hj
      iexact Hw
    isplitl [Hs]; · iexact Hs
    iexact He

/-- Four tokens of a share of the edge arrays, and what is left of it. -/
theorem eds_four (q : PosShare TreeShare) :
    (eds d i eE C q : sProp 𝕄) ⊣⊢ iprop(eds d i eE C (shareDrop q 4) ∗ eds d i eE C (shareTok q 4 0) ∗ eds d i eE C (shareTok q 4 1) ∗ eds d i eE C (shareTok q 4 2) ∗ eds d i eE C (shareTok q 4 3)) := by
  have e4 : ∀ {ℓ : Loc nD τ sig} (f : Buf (Elt F) ℓ), (ℓ ↦{q} f : sProp 𝕄) ⊣⊢ iprop((ℓ ↦{shareDrop q 4} f) ∗ (ℓ ↦{shareTok q 4 0} f) ∗ (ℓ ↦{shareTok q 4 1} f) ∗ (ℓ ↦{shareTok q 4 2} f) ∗ (ℓ ↦{shareTok q 4 3} f)) := by
    intro ℓ f
    have h := Transfers.pointsTo_toks (ℓ := ℓ) (S := Finset.univ) (f := f) (Ix := HIx 1) (Name := ℕ) (U := UU) (Lvl := ℕ) q 4
    rw [Idealize.SL.BI.bigSep_univ_eq_bigSepL [0, 1, 2, 3] (by decide) (by decide) _] at h
    exact h
  unfold eds
  constructor
  · iintro ⟨Hi, Hj, Hw⟩
    ihave Hi := (e4 _).1 $$ Hi
    ihave Hj := (e4 _).1 $$ Hj
    ihave Hw := (e4 _).1 $$ Hw
    icases Hi with ⟨Hi, Hi0, Hi1, Hi2, Hi3⟩
    icases Hj with ⟨Hj, Hj0, Hj1, Hj2, Hj3⟩
    icases Hw with ⟨Hw, Hw0, Hw1, Hw2, Hw3⟩
    isplitl [Hi Hj Hw]
    · isplitl [Hi]; · iexact Hi
      isplitl [Hj] <;> iassumption
    isplitl [Hi0 Hj0 Hw0]
    · isplitl [Hi0]; · iexact Hi0
      isplitl [Hj0] <;> iassumption
    isplitl [Hi1 Hj1 Hw1]
    · isplitl [Hi1]; · iexact Hi1
      isplitl [Hj1] <;> iassumption
    isplitl [Hi2 Hj2 Hw2]
    · isplitl [Hi2]; · iexact Hi2
      isplitl [Hj2] <;> iassumption
    · isplitl [Hi3]; · iexact Hi3
      isplitl [Hj3] <;> iassumption
  · iintro ⟨⟨Hi, Hj, Hw⟩, ⟨Hi0, Hj0, Hw0⟩, ⟨Hi1, Hj1, Hw1⟩, ⟨Hi2, Hj2, Hw2⟩, ⟨Hi3, Hj3, Hw3⟩⟩
    isplitl [Hi Hi0 Hi1 Hi2 Hi3]
    · iapply (e4 _).2
      isplitl [Hi]; · iexact Hi
      isplitl [Hi0]; · iexact Hi0
      isplitl [Hi1]; · iexact Hi1
      isplitl [Hi2] <;> iassumption
    isplitl [Hj Hj0 Hj1 Hj2 Hj3]
    · iapply (e4 _).2
      isplitl [Hj]; · iexact Hj
      isplitl [Hj0]; · iexact Hj0
      isplitl [Hj1]; · iexact Hj1
      isplitl [Hj2] <;> iassumption
    · iapply (e4 _).2
      isplitl [Hw]; · iexact Hw
      isplitl [Hw0]; · iexact Hw0
      isplitl [Hw1]; · iexact Hw1
      isplitl [Hw2] <;> iassumption

/-- The tile's storage and its shares, as the body takes them. -/
theorem open_close (q : PosShare TreeShare) :
    iprop(ownBufs (TT d i) ∗ ownSems0 (TT d i) ∗ eds d i eE C q ∗ (mX.view.loc (TT d i) ↦{q} fX))
      ⊣⊢ (iprop(kept d i C (shareTok q 4 0) (shareTok q 4 1) (shareTok q 4 2) (shareTok q 4 3) (shareTok q 2 0) (shareTok q 2 1) fX
        ∗ others d i ∗ eds d i eE C (shareDrop q 4) ∗ (mX.view.loc (TT d i) ↦{shareDrop q 2} fX)) : sProp 𝕄) := by
  have x2 : (mX.view.loc (TT d i) ↦{q} fX : sProp 𝕄) ⊣⊢ iprop((mX.view.loc (TT d i) ↦{shareDrop q 2} fX) ∗ (mX.view.loc (TT d i) ↦{shareTok q 2 0} fX) ∗ (mX.view.loc (TT d i) ↦{shareTok q 2 1} fX)) := by
    have h := Transfers.pointsTo_toks (S := Finset.univ) (f := fX) (Ix := HIx 1) (Name := ℕ) (U := UU) (Lvl := ℕ) q 2
    rw [Idealize.SL.BI.bigSep_univ_eq_bigSepL [0, 1] (by decide) (by decide) _] at h
    exact h
  unfold others kept
  rw [bufs_open, sems_open, bufs_list, sems_list]
  constructor
  · iintro ⟨⟨⟨B0, B1, B2, B3, B4, B5, B6, B7, B8, B9, B10, B11, B12, B13, B14⟩, BR⟩, ⟨⟨S0, S1, S2, S3, S4, S5⟩, SR⟩, He, Hx⟩
    ihave He := (eds_four d i C q).1 $$ He
    icases He with ⟨He, E0, E1, E2, E3⟩
    ihave Hx := x2.1 $$ Hx
    icases Hx with ⟨Hx, X0, X1⟩
    isplitr [BR SR He Hx]
    · isplitl [B0]; · iapply (own_of_buf d i pA) $$ B0
      isplitl [B1]; · iapply (own_of_buf d i pB) $$ B1
      isplitl [B14]; · iapply (own_of_buf d i mV) $$ B14
      isplitl [S4]; · iexact S4
      isplitl [S5]; · iexact S5
      isplitl [B2 B6 B10 S0 E0]
      · iapply (idle_iff d i C _ zA).2
        isplitl [B2]; · iexact B2
        isplitl [B6]; · iexact B6
        isplitl [B10]; · iexact B10
        isplitl [S0]; · iexact S0
        iexact E0
      isplitl [B3 B7 B11 S1 E1]
      · iapply (idle_iff d i C _ zB).2
        isplitl [B3]; · iexact B3
        isplitl [B7]; · iexact B7
        isplitl [B11]; · iexact B11
        isplitl [S1]; · iexact S1
        iexact E1
      isplitl [B4 B8 B12 S2 E2]
      · iapply (idle_iff d i C _ zC).2
        isplitl [B4]; · iexact B4
        isplitl [B8]; · iexact B8
        isplitl [B12]; · iexact B12
        isplitl [S2]; · iexact S2
        iexact E2
      isplitl [B5 B9 B13 S3 E3]
      · iapply (idle_iff d i C _ zD).2
        isplitl [B5]; · iexact B5
        isplitl [B9]; · iexact B9
        isplitl [B13]; · iexact B13
        isplitl [S3]; · iexact S3
        iexact E3
      isplitl [X0]; · iexact X0
      iexact X1
    isplitl [BR SR]
    · isplitl [BR]; · iexact BR
      iexact SR
    isplitl [He]; · iexact He
    iexact Hx
  · iintro ⟨⟨B0, B1, B14, S4, S5, I0, I1, I2, I3, X0, X1⟩, ⟨BR, SR⟩, He, Hx⟩
    ihave B0 := (buf_of_own d i pA) $$ B0
    ihave B1 := (buf_of_own d i pB) $$ B1
    ihave B14 := (buf_of_own d i mV) $$ B14
    ihave I0 := (idle_iff d i C _ zA).1 $$ I0
    icases I0 with ⟨B2, B6, B10, S0, E0⟩
    ihave I1 := (idle_iff d i C _ zB).1 $$ I1
    icases I1 with ⟨B3, B7, B11, S1, E1⟩
    ihave I2 := (idle_iff d i C _ zC).1 $$ I2
    icases I2 with ⟨B4, B8, B12, S2, E2⟩
    ihave I3 := (idle_iff d i C _ zD).1 $$ I3
    icases I3 with ⟨B5, B9, B13, S3, E3⟩
    isplitl [B0 B1 B2 B3 B4 B5 B6 B7 B8 B9 B10 B11 B12 B13 B14 BR]
    · isplitr [BR]; swap
      · iexact BR
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      iexact B14
    isplitl [S0 S1 S2 S3 S4 S5 SR]
    · isplitr [SR]; swap
      · iexact SR
      isplitl [S0]; · iexact S0
      isplitl [S1]; · iexact S1
      isplitl [S2]; · iexact S2
      isplitl [S3]; · iexact S3
      isplitl [S4]; · iexact S4
      iexact S5
    isplitl [He E0 E1 E2 E3]
    · iapply (eds_four d i C q).2
      isplitl [He]; · iexact He
      isplitl [E0]; · iexact E0
      isplitl [E1]; · iexact E1
      isplitl [E2] <;> iassumption
    · iapply x2.2
      isplitl [Hx]; · iexact Hx
      isplitl [X0] <;> iassumption

end Cert.Proof.Ising

end
-- ==== Proof.Launch.lean ====
/-
  What the launch hands a SparseCore and its tiles and what they hand back: shares of the arrays they read, and their rows of
  the result; and a tile's task under that contract.
-/
module

public import proofs.«01_k».proof.Proof.Tile
public import Idealize.ShloMosaic.Lib.Pipeline.Value

@[expose] public section

noncomputable section

namespace Cert.Proof.Ising

open Cert.KernelIdeal Cert.KernelIdeal.Gen
open Idealize.ShloMosaic hiding T
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (shareTok shareTokN shareDrop)

variable {F : FTy → Type} [FloatOps F]

local notation "𝕄" => MT nD τ sig (HIx 1) (Elt F) ℕ UU ℕ

variable (m : (ℓ : Loc nD τ sig) → Buf (Elt F) ℓ)

/-- The TensorCore of device `d`. -/
abbrev tc (d : Dev nD) : Thread nD τ := T d

/-! ## The result as one array -/

/-- The tile that fills block `w` of the result. -/
def tileOf (w : ℕ) : grid2.Coords := fun
  | 0 => ⟨w % 2, Nat.mod_lt _ (by decide)⟩
  | 1 => ⟨(4 * ((w % 8) / 2) + w / 8) % 16, Nat.mod_lt _ (by decide)⟩
  | ⟨_ + 2, h⟩ => absurd h (Nat.not_lt.2 (Nat.le_add_left _ _))

/-- The block a tile fills. -/
def wid (i : grid2.Coords) : ℕ := 8 * ((i 1).val % 4) + 2 * ((i 1).val / 4) + (i 0).val

/-- A tile's block is one of 32. -/
theorem wid_lt : ∀ i : grid2.Coords, wid i < 32 := by decide +kernel
/-- The tile that fills the block of tile `i` is `i`, coordinate by coordinate. -/
theorem tileOf_wid : ∀ i : grid2.Coords, tileOf (wid i) 0 = i 0 ∧ tileOf (wid i) 1 = i 1 := by decide +kernel
/-- The tile that fills the block of tile `i` is `i`. -/
theorem tileOf_eq (i : grid2.Coords) : tileOf (wid i) = i := by
  funext a
  match a with
  | 0 => exact (tileOf_wid i).1
  | 1 => exact (tileOf_wid i).2
  | ⟨_ + 2, h⟩ => exact absurd h (Nat.not_lt.2 (Nat.le_add_left _ _))

/-- The accumulators of tile `i` from the packed spins and the edges. -/
def accOf (X : Vec F S8x50000 .i32) (EI EJ : Vec F S1600000 .i32) (J : Vec F S1600000 .f32) (i : grid2.Coords) : Acc F :=
  accC i (rowOf X (rowNo i)) (rowOf X (rowNo i + 1)) EI EJ J 100

/-- The SparseCore call's result: block `w`, row `r`, lane `l` is lane `l` of accumulator `r` of the tile that fills block `w`. -/
def partsOf (X : Vec F S8x50000 .i32) (EI EJ : Vec F S1600000 .i32) (J : Vec F S1600000 .f32) : Vec F S32x4x16 .f32 :=
  fun y => pick (accOf X EI EJ J (tileOf (y 0).val)) (y 1).val (ixL (y 2).val)

/-- The packed spins, from the words of `x`. -/
def packed (d : Dev nD) : Buf (Elt F) ((tc d).loc main_v0) := k0_pay1 (F := F) (m ((tc d).loc main_arg0))

/-- The SparseCore call's result, from the launch memory. -/
def parts (d : Dev nD) : Buf (Elt F) ((tc d).loc main_v3) :=
  partsOf (packed m d) (m ((tc d).loc main_arg3)) (m ((tc d).loc main_arg4)) (m ((tc d).loc main_arg2))

/-- The edge arrays at the launch contents, as tile `i` reads them. -/
def conts (d : Dev nD) (i : grid2.Coords) : Conts F d i eE := ⟨m ((tc d).loc main_arg3), m ((tc d).loc main_arg4), m ((tc d).loc main_arg2)⟩

/-! ## A tile's rows of the result -/

/-- The elements of block `w`. -/
def blockSet (w : ℕ) : Finset S32x4x16.Idx := Finset.univ.filter fun y => (y 0).val = w

/-- The index in the whole result of element `z` of tile `i`'s rows: its block, then `z`'s two coordinates. -/
theorem row_emb (i : grid2.Coords) (z : S4x16.Idx) :
    (((outRow i mO).view.emb z : S32x4x16.Idx) 0).val = wid i ∧ (((outRow i mO).view.emb z : S32x4x16.Idx) 1).val = (z 0).val ∧ (((outRow i mO).view.emb z : S32x4x16.Idx) 2).val = (z 1).val := by
  have e := Shape.reshapeEquiv_cons_one (n := 2) (d := ![4, 16]) rfl z
  have h : ∀ a : Fin 3, (((outRow i mO).view.emb z : S32x4x16.Idx) a).val = (![wid i, 0, 0] : Fin 3 → ℕ) a + ((Fin.cons (0 : Fin 1) z : S1x4x16.Idx) a).val := by
    intro a
    refine (ValueKit.rect_emb_unit_val (s := S32x4x16) (k2_off12 i) S1x4x16.size (k2_off12_inb i) _ a).trans ?_
    exact congrArg₂ (· + ·) (congrFun (off12_eq i) a) (congrArg (fun z : S1x4x16.Idx => (z a).val) e)
  exact ⟨(h 0).trans (Nat.add_zero _), (h 1).trans (Nat.zero_add _), (h 2).trans (Nat.zero_add _)⟩

/-- A tile's rows of the result are the elements of its block. -/
theorem rowSet_eq (i : grid2.Coords) : ((outRow i mO).view.set : Finset S32x4x16.Idx) = blockSet (wid i) := by
  have h1 : ((outRow i mO).view.set : Finset S32x4x16.Idx) = (Rect.unit (s := S32x4x16) (k2_off12 i) S1x4x16.size (k2_off12_inb i)).set := by
    show (((View.whole (main_v3_scv : Ref sig .scVector)).slice (Rect.unit (s := S32x4x16) (k2_off12 i) S1x4x16.size (k2_off12_inb i))).reshape S4x16 _).set = _
    rw [View.set_reshape, View.set_slice_whole]
  rw [h1]
  ext y
  rw [LoadRect.mem_set, blockSet, Finset.mem_filter]
  have hy1 : (y 1).val < 4 := (y 1).isLt
  have hy2 : (y 2).val < 16 := (y 2).isLt
  show (∀ a, ∃ j < S1x4x16.size a, (y a).val = k2_off12 i a + 1 * j) ↔ _
  rw [off12_eq i]
  constructor
  · intro h
    obtain ⟨j, hj, e⟩ := h 0
    have hj' : j < 1 := hj
    have e' : (y 0).val = wid i + 1 * j := e
    exact ⟨Finset.mem_univ _, by omega⟩
  · rintro ⟨-, h⟩ a
    match a with
    | 0 => exact ⟨0, by decide, h⟩
    | 1 => exact ⟨(y 1).val, hy1, by show _ = 0 + 1 * _; omega⟩
    | 2 => exact ⟨(y 2).val, hy2, by show _ = 0 + 1 * _; omega⟩

/-- A tile's rows of the result, filled, are the result's on its block. -/
theorem outHas_block (d : Dev nD) (i : grid2.Coords) :
    outHas d i mO (tileAcc d i (conts m d i) (packed m d)) ⊢ ((tc d).loc main_v3 ↦[blockSet (wid i)]{fullShare} parts m d : sProp 𝕄) := by
  unfold outHas
  iintro ⟨%f, %hf, H⟩
  have hc : ∀ y ∈ (outRow i mO).view.set, f y = parts m d y := by
    intro y hy
    obtain ⟨z, -, rfl⟩ := Finset.mem_map.mp hy
    obtain ⟨h0, h1, h2⟩ := row_emb i z
    refine (congrFun hf z).trans ?_
    show _ = partsOf _ _ _ _ _
    unfold partsOf accRows
    rw [h0, h1, h2, tileOf_eq]
    rfl
  ihave H := (Entails.of_eq (pointsTo_congr hc)) $$ H
  rw [← rowSet_eq]
  iexact H

/-! ## The contract -/

/-- A share of everything the tiles read: the edge arrays at the launch contents, and the packed spins. -/
def shares (d : Dev nD) (q : PosShare TreeShare) : sProp 𝕄 :=
  iprop(((tc d).loc main_arg3 ↦{q} m ((tc d).loc main_arg3)) ∗ ((tc d).loc main_arg4 ↦{q} m ((tc d).loc main_arg4)) ∗ ((tc d).loc main_arg2 ↦{q} m ((tc d).loc main_arg2))
    ∗ ((tc d).loc main_v0 ↦{q} packed m d))

/-- The shares of the operands may be stored in an invariant. -/
instance shares_storable (d : Dev nD) (q : PosShare TreeShare) : Storable (upEmb : UEmb _ 𝕄) (shares m d q) := by unfold shares; infer_instance

/-- A block of the result. -/
def block (d : Dev nD) (A : Finset S32x4x16.Idx) (f : Buf (Elt F) ((tc d).loc main_v3)) : sProp 𝕄 := iprop((tc d).loc main_v3 ↦[A]{fullShare} f)

/-- A block may be stored in an invariant. -/
instance block_storable (d : Dev nD) (A : Finset S32x4x16.Idx) (f : Buf (Elt F) ((tc d).loc main_v3)) : Storable (upEmb : UEmb _ 𝕄) (block d A f) := by unfold block; infer_instance

/-- The tile with number `i` on core `c`. -/
def co (c : Fin (grid2.bound 0)) (i : Fin (grid2.bound 1)) : grid2.Coords := fun
  | 0 => c
  | 1 => i
  | ⟨_ + 2, h⟩ => absurd h (Nat.not_lt.2 (Nat.le_add_left _ _))

/-- The blocks of a core's tiles. -/
def coreSet (c : Fin (grid2.bound 0)) : Finset S32x4x16.Idx := Finset.univ.biUnion fun i : Fin (grid2.bound 1) => blockSet (wid (co c i))

/-- A SparseCore's share of the operands. -/
abbrev qc (c : Fin ((K (F := F)).nCore 0)) : PosShare TreeShare := shareTok fullShare _ c
/-- A tile's share of them. -/
abbrev qt (c : Fin ((K (F := F)).nCore 0)) (i : Fin ((K (F := F)).nSub 0)) : PosShare TreeShare := shareTok (qc c) _ i

/-- What the handshakes carry: the operands' shares and blocks of the result, as launched on the way out and filled on the way back. -/
def P : (K (F := F)).Pay (nD := nD) (Val := Elt F) (Name := ℕ) (U := UU) where
  st := fun q d c => match q with | 0 => iprop(shares m d (qc c) ∗ block d (coreSet c) (m ((tc d).loc main_v3)))
  dn := fun q d c => match q with | 0 => iprop(shares m d (qc c) ∗ block d (coreSet c) (parts m d))
  go := fun q d c i => match q with | 0 => iprop(shares m d (qt c i) ∗ block d (blockSet (wid (co c i))) (m ((tc d).loc main_v3)))
  td := fun q d c i => match q with | 0 => iprop(shares m d (qt c i) ∗ block d (blockSet (wid (co c i))) (parts m d))
  x := fun _ _ => iprop(emp)

/-- All that the handshakes carry may be stored in an invariant. -/
instance P_storable : (P (F := F) m).IsStorable where
  st q d c := match q with | 0 => (inferInstance : BI.Storable (upEmb : UEmb _ 𝕄) iprop(shares m d (qc c) ∗ block d (coreSet c) (m ((tc d).loc main_v3))))
  dn q d c := match q with | 0 => (inferInstance : BI.Storable (upEmb : UEmb _ 𝕄) iprop(shares m d (qc c) ∗ block d (coreSet c) (parts m d)))
  go q d c i := match q with | 0 => (inferInstance : BI.Storable (upEmb : UEmb _ 𝕄) iprop(shares m d (qt c i) ∗ block d (blockSet (wid (co c i))) (m ((tc d).loc main_v3))))
  td q d c i := match q with | 0 => (inferInstance : BI.Storable (upEmb : UEmb _ 𝕄) iprop(shares m d (qt c i) ∗ block d (blockSet (wid (co c i))) (parts m d)))

/-- A share of what the tiles read is some tokens of it and what remains. -/
theorem shares_toks (d : Dev nD) (q : PosShare TreeShare) (n : ℕ) :
    (shares m d q : sProp 𝕄) ⊣⊢ iprop(shares m d (shareDrop q n) ∗ bigSep Finset.univ fun i : Fin n => shares m d (shareTok q n i)) := by
  unfold shares
  rw [bigSep_sep', bigSep_sep', bigSep_sep']
  constructor
  · iintro ⟨Ha, Hb, Hc, Hd⟩
    ihave Ha := (Transfers.pointsTo_toks_split q n) $$ Ha
    ihave Hb := (Transfers.pointsTo_toks_split q n) $$ Hb
    ihave Hc := (Transfers.pointsTo_toks_split q n) $$ Hc
    ihave Hd := (Transfers.pointsTo_toks_split q n) $$ Hd
    icases Ha with ⟨Ha, Ka⟩
    icases Hb with ⟨Hb, Kb⟩
    icases Hc with ⟨Hc, Kc⟩
    icases Hd with ⟨Hd, Kd⟩
    isplitl [Ha Hb Hc Hd]
    · isplitl [Ha]; · iexact Ha
      isplitl [Hb]; · iexact Hb
      isplitl [Hc] <;> iassumption
    · isplitl [Ka]; · iexact Ka
      isplitl [Kb]; · iexact Kb
      isplitl [Kc] <;> iassumption
  · iintro ⟨⟨Ha, Hb, Hc, Hd⟩, Ka, Kb, Kc, Kd⟩
    isplitl [Ha Ka]
    · iapply (Transfers.pointsTo_toks_join q n); isplitl [Ha] <;> iassumption
    isplitl [Hb Kb]
    · iapply (Transfers.pointsTo_toks_join q n); isplitl [Hb] <;> iassumption
    isplitl [Hc Kc]
    · iapply (Transfers.pointsTo_toks_join q n); isplitl [Hc] <;> iassumption
    · iapply (Transfers.pointsTo_toks_join q n); isplitl [Hd] <;> iassumption

/-- Different blocks have no element in common. -/
theorem block_disj {w w' : ℕ} (h : w ≠ w') : Disjoint (blockSet w) (blockSet w') :=
  Finset.disjoint_left.mpr fun y hy hy' => h ((Finset.mem_filter.mp hy).2.symm.trans (Finset.mem_filter.mp hy').2)

/-- Different tiles fill different blocks. -/
theorem wid_inj {i j : grid2.Coords} (h : wid i = wid j) : i = j := by rw [← tileOf_eq i, h, tileOf_eq]

/-- A tile's coordinates determine its SparseCore and its number there. -/
theorem co_inj {c c' : Fin (grid2.bound 0)} {i i' : Fin (grid2.bound 1)} (h : co c i = co c' i') : c = c' ∧ i = i' :=
  ⟨congrFun h 0, congrFun h 1⟩

/-- A core's blocks are its tiles'. -/
theorem core_blocks (d : Dev nD) (c : Fin ((K (F := F)).nCore 0)) (f : Buf (Elt F) ((tc d).loc main_v3)) :
    (block d (coreSet c) f : sProp 𝕄) = bigSep Finset.univ fun i : Fin ((K (F := F)).nSub 0) => block d (blockSet (wid (co c i))) f := by
  unfold block coreSet
  exact pointsTo_biUnion (ℓ := (tc d).loc main_v3) Finset.univ (fun i => blockSet (wid (co c i))) fun i _ j _ h => block_disj fun e => h (co_inj (wid_inj e)).2

/-- The result's blocks are the cores'. -/
theorem all_blocks (d : Dev nD) (f : Buf (Elt F) ((tc d).loc main_v3)) :
    ((tc d).loc main_v3 ↦{fullShare} f : sProp 𝕄) = bigSep Finset.univ fun c : Fin ((K (F := F)).nCore 0) => block d (coreSet c) f := by
  have hd : ∀ c ∈ (Finset.univ : Finset (Fin ((K (F := F)).nCore 0))), ∀ c' ∈ (Finset.univ : Finset (Fin ((K (F := F)).nCore 0))), c ≠ c' → Disjoint (coreSet c) (coreSet c') := by
    intro c _ c' _ h
    refine (Finset.disjoint_biUnion_left ..).mpr fun i _ => (Finset.disjoint_biUnion_right ..).mpr fun j _ => block_disj fun e => h (co_inj (wid_inj e)).1
  have hu : (Finset.univ : Finset (Fin ((K (F := F)).nCore 0))).biUnion coreSet = (Finset.univ : Finset S32x4x16.Idx) := by
    refine Finset.eq_univ_iff_forall.mpr fun y => ?_
    have hy : (y 0).val < 32 := (y 0).isLt
    have hw : ∀ w : Fin 32, wid (tileOf w.val) = w.val := by decide +kernel
    refine Finset.mem_biUnion.mpr ⟨tileOf (y 0).val 0, Finset.mem_univ _, Finset.mem_biUnion.mpr ⟨tileOf (y 0).val 1, Finset.mem_univ _, Finset.mem_filter.mpr ⟨Finset.mem_univ _, ?_⟩⟩⟩
    exact (hw ⟨_, hy⟩).symm
  unfold block
  have h := pointsTo_biUnion (ℓ := (tc d).loc main_v3) (q := fullShare) (f := f) (Ix := HIx 1) (Name := ℕ) (U := UU) (Lvl := ℕ) Finset.univ coreSet hd
  exact (congrArg (fun A : Finset S32x4x16.Idx => ((tc d).loc main_v3 ↦[A]{fullShare} f : sProp 𝕄)) hu.symm).trans h

/-- A core's operands to its tiles' shares, and their results back to its own. -/
theorem vecSplit : (K (F := F)).VecSplit' (P m) 0 := by
  intro d c
  show iprop(shares m d (qc c) ∗ block d (coreSet c) (m ((tc d).loc main_v3))) ⊢ |={Set.univ}=> iprop(
      (bigSep Finset.univ fun i : Fin ((K (F := F)).nSub 0) => iprop(shares m d (qt c i) ∗ block d (blockSet (wid (co c i))) (m ((tc d).loc main_v3))))
      ∗ ((bigSep Finset.univ fun i : Fin ((K (F := F)).nSub 0) => iprop(shares m d (qt c i) ∗ block d (blockSet (wid (co c i))) (parts m d))) -∗ iprop(shares m d (qc c) ∗ block d (coreSet c) (parts m d))))
  rw [bigSep_sep', bigSep_sep', core_blocks, core_blocks]
  iintro ⟨Hs, Hb⟩
  ihave Hs := (shares_toks m d (qc c) ((K (F := F)).nSub 0)).1 $$ Hs
  icases Hs with ⟨Hr, Hs⟩
  imodintro
  isplitl [Hs Hb]
  · isplitl [Hs] <;> iassumption
  iintro ⟨Hs, Hb⟩
  isplitr [Hb]; swap
  · iexact Hb
  iapply (shares_toks m d (qc c) ((K (F := F)).nSub 0)).2
  isplitl [Hr] <;> iassumption

/-! ## A tile's task -/

/-- Every index of an edge names a spin. -/
def InRange : Prop := ∀ d : Dev nD, (∀ x : S1600000.Idx, (m ((tc d).loc main_arg3) x).toNat < 50000) ∧ ∀ x : S1600000.Idx, (m ((tc d).loc main_arg4) x).toNat < 50000

/-- A tile's body, given a share of the operands and its block of the result, ends with the block holding the tile's sums, its own buffers and semaphores as taken, and no wait recorded at a handshake. -/
theorem tile_body (hpre : InRange m) (d : Dev nD) (i : grid2.Coords) (q : PosShare TreeShare) (O : CellTallies nD τ sig (HIx 1)) (W : Waits sig (HIx 1)) (hO : ∀ g, O g none = 0) :
    iprop(levAts (K (F := F)).L (K (F := F)).lev ∗ emp ∗ (shares m d q ∗ block d (blockSet (wid i)) (m ((tc d).loc main_v3))) ∗ scopedBufs (TT d i) ∗ scopedSems0 (TT d i) ∗ owes (TT d i) O W)
      ⊢ wp frame (wpE (defs₀ (F := F)) 𝒱₀ (TT d i) none) Set.univ (bodyAt (F := F) i) fun _ =>
        (iprop((shares m d q ∗ block d (blockSet (wid i)) (parts m d)) ∗ scopedBufs (TT d i) ∗ scopedSems0 (TT d i)
          ∗ ∃ W', ⌜∀ p ∈ W', p ∈ W ∨ p.2 = none⌝ ∗ owes (TT d i) O W') : sProp 𝕄) := by
  have hsh : (shares m d q : sProp 𝕄) ⊣⊢ iprop(eds d i eE (conts m d i) q ∗ (mX.view.loc (TT d i) ↦{q} packed m d)) := by
    unfold shares eds
    constructor
    · iintro ⟨Ha, Hb, Hc, Hd⟩
      isplitl [Ha Hb Hc]
      · isplitl [Ha]; · iexact Ha
        isplitl [Hb]; · iexact Hb
        iexact Hc
      iexact Hd
    · iintro ⟨⟨Ha, Hb, Hc⟩, Hd⟩
      isplitl [Ha]; · iexact Ha
      isplitl [Hb]; · iexact Hb
      isplitl [Hc]; · iexact Hc
      iexact Hd
  rw [(K (F := F)).scopedBufs_V facts d (cV i) (jV i), SparseCore.Cfg.scopedSems0_V (Val := Elt F) d (cV i) (jV i)]
  iintro ⟨#Hl, -, ⟨Hs, Ho⟩, Hb, Hm, HO⟩
  ihave #Hmw := ((K (F := F)).mayWaits_none (thr := TT d i) hO) $$ Hl
  ihave Hs := hsh.1 $$ Hs
  icases Hs with ⟨He, Hx⟩
  ihave Hk := (open_close d i (conts m d i) (packed m d) q).1 $$ [Hb Hm He Hx]
  · isplitl [Hb]; · iexact Hb
    isplitl [Hm]; · iexact Hm
    isplitl [He] <;> iassumption
  icases Hk with ⟨Hk, Hrest⟩
  iapply (wp_body d i (conts m d i) O W (shareTok q 4 0) (shareTok q 4 1) (shareTok q 4 2) (shareTok q 4 3) (shareTok q 2 0) (shareTok q 2 1) (packed m d)
    (fun x => (hpre d).1 x) (fun x => (hpre d).2 x) (m ((tc d).loc main_v3)))
  isplitr; · iexact Hmw
  isplitl [Hk]; · iexact Hk
  isplitl [Ho]
  · rw [rowSet_eq]; unfold block; iexact Ho
  isplitl [HO]
  · unfold owesW; iexists W; isplitr
    · ipureintro; exact fun p hp => Or.inl hp
    · iexact HO
  iintro ⟨Hk, Ho, HO⟩
  ihave Hk := (open_close d i (conts m d i) (packed m d) q).2 $$ [Hk Hrest]
  · isplitl [Hk] <;> iassumption
  icases Hk with ⟨Hb, Hm, He, Hx⟩
  isplitl [He Hx Ho]
  · isplitl [He Hx]
    · iapply hsh.2; isplitl [He] <;> iassumption
    · unfold block; iapply (outHas_block m d i); iexact Ho
  isplitl [Hb]; · iexact Hb
  isplitl [Hm]; · iexact Hm
  unfold owesW; iexact HO

/-- The tile's body is the program its label names. -/
theorem defs₀_vector (c : Fin τ.nSC) (s : Fin τ.nSub) :
    defs₀ (F := F) (.scVector c s) 2 () = SparseCore.onTile hcore2 hsub2 (fun c s => bodyAt (F := F) (co c s)) ⟨⟩ c s := rfl

/-- Waits that record no handshake are among those that the contract allows. -/
theorem obl_post {A B C : sProp 𝕄} {thr : Thread nD τ} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, ⟨%W', %hW, HO⟩⟩
  isplitl [HA]; · iexact HA
  isplitl [HB]; · iexact HB
  isplitl [HC]; · iexact HC
  iexists W'; isplitr
  · ipureintro; exact fun p hp => (hW p hp).imp_right Or.inl
  · iexact HO

/-- A tile's task under the contract. -/
theorem tileObl (hpre : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body m hpre d (co c i) (qt c i) O W hO).trans (wp_mono frame _ _ fun _ => obl_post)

end Cert.Proof.Ising

end
-- ==== Proof.Regions.lean ====
/-
  The two TensorCore kernels of @main as regions: their bodies run, and each region taken from every array at one valuation to
  every array at the valuation with the region's result in it — while the TensorCore already owes the SparseCores their starts.
-/
module

public import proofs.«01_k».proof.Proof.Launch
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionsLoop
public import Idealize.ShloMosaic.Lib.Pipeline.RegionArrays

@[expose] public section

noncomputable section

namespace Cert.Proof.Ising

open Cert.KernelIdeal Cert.KernelIdeal.Gen
open Idealize.ShloMosaic hiding T
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe
open Idealize.ShloMosaic.Pipeline (Dat BodyObligation scopedRest unscopedRest arrRef RegionSeg)

variable {F : FTy → Type} [FloatOps F]

local notation "𝕄" => MT nD τ sig (HIx 1) (Elt F) ℕ UU ℕ

/-! ## The bodies -/

section Bodies

variable (d : Dev nD)

/-- The offsets 0, 0 are everywhere zero. -/
theorem zeros2 : (![0, 0] : Fin 2 → ℕ) = fun _ => 0 := funext fun a => by fin_cases a <;> rfl

/-- The packing kernel on its two staging buffers. -/
theorem wp_pack (f0 : Vec F S16x50000 .i32) (f1 : Vec F S8x50000 .i32) (Q : PUnit → sProp 𝕄) :
    iprop(((tc d).loc cc0_stg0_0 ↦{fullShare} f0) ∗ ((tc d).loc cc0_stg1_0 ↦{fullShare} f1)
        ∗ (iprop(((tc d).loc cc0_stg0_0 ↦{fullShare} f0) ∗ ((tc d).loc cc0_stg1_0 ↦{fullShare} k0_pay1 f0)) -∗ Q ⟨⟩))
      ⊢ wp frame (wpE (defs₀ (F := F)) 𝒱₀ (tc d) none) Set.univ
          (cc0_pack_body (stage0_0 0) (hstage0_0 0) (stage0_1 0) (hstage0_1 0)) Q := by
  rw [cc0_pack_body_eq_skeleton]
  unfold cc0_pack_body_skel
  iintro ⟨H0, H1, HQ⟩
  simp only [Prog.lift, Prog.bind_op, Prog.bind_ret]
  iapply (wp_load 𝒱₀ (tc d) none Set.univ (m := stage0_0 0) (S := Finset.univ) (f := f0) (Finset.subset_univ _)) $$ H0
  iintro H0
  simp only [bind_of_ret]
  iapply (wp_load 𝒱₀ (tc d) none Set.univ (m := stage0_1 0) (S := Finset.univ) (f := f1) (Finset.subset_univ _)) $$ H1
  iintro H1
  simp only [bind_of_ret]
  iapply (wp_store 𝒱₀ (tc d) none Set.univ (m := stage0_1 0) (r := Rect.unit (s := S8x50000) ![0, 0] S8x50000.size inb_S8x50000_S8x50000_0_0)
    (Mk := Finset.univ) (S := Finset.univ) (f := f1) (Finset.subset_univ _)) $$ H1
  iintro H1
  rw [wp_pure]; imodintro
  iapply HQ
  isplitl [H0]; · iexact H0
  iapply (Entails.of_eq (congrArg (fun f => ((tc d).loc cc0_stg1_0 ↦{fullShare} f : sProp 𝕄))
    ((Memref.write_access_unit_zero_univ (Elt F) cc0_stg1_0 zeros2 inb_S8x50000_S8x50000_0_0 f1 _).trans
      (congrArg k0_pay1 (Memref.readAt_unit_zero (Elt F) cc0_stg0_0 zeros2 inb_S16x50000_S16x50000_0_0 f0))))) $$ H1

/-- The kernel of the linear term on its three staging buffers. -/
theorem wp_hx (f0 : Vec F S16x50000 .i32) (f1 : Vec F S1x50000 .f32) (f2 : Vec F S16x1 .f32) (Q : PUnit → sProp 𝕄) :
    iprop(((tc d).loc cc1_stg0_0 ↦{fullShare} f0) ∗ ((tc d).loc cc1_stg1_0 ↦{fullShare} f1) ∗ ((tc d).loc cc1_stg2_0 ↦{fullShare} f2)
        ∗ (iprop(((tc d).loc cc1_stg0_0 ↦{fullShare} f0) ∗ ((tc d).loc cc1_stg1_0 ↦{fullShare} f1)
            ∗ ((tc d).loc cc1_stg2_0 ↦{fullShare} k1_pay1 f0 f1)) -∗ Q ⟨⟩))
      ⊢ wp frame (wpE (defs₀ (F := F)) 𝒱₀ (tc d) none) Set.univ
          (cc1_hx_body (stage1_0 0) (hstage1_0 0) (stage1_1 0) (hstage1_1 0) (stage1_2 0) (hstage1_2 0)) Q := by
  rw [cc1_hx_body_eq_skeleton]
  unfold cc1_hx_body_skel
  iintro ⟨H0, H1, H2, HQ⟩
  simp only [Prog.lift, Prog.bind_op, Prog.bind_ret]
  iapply (wp_load 𝒱₀ (tc d) none Set.univ (m := stage1_0 0) (S := Finset.univ) (f := f0) (Finset.subset_univ _)) $$ H0
  iintro H0
  simp only [bind_of_ret]
  iapply (wp_load 𝒱₀ (tc d) none Set.univ (m := stage1_1 0) (S := Finset.univ) (f := f1) (Finset.subset_univ _)) $$ H1
  iintro H1
  simp only [bind_of_ret]
  iapply (wp_load 𝒱₀ (tc d) none Set.univ (m := stage1_2 0) (S := Finset.univ) (f := f2) (Finset.subset_univ _)) $$ H2
  iintro H2
  simp only [bind_of_ret]
  iapply (wp_store 𝒱₀ (tc d) none Set.univ (m := stage1_2 0) (r := Rect.unit (s := S16x1) ![0, 0] S16x1.size inb_S16x1_S16x1_0_0)
    (Mk := Finset.univ) (S := Finset.univ) (f := f2) (Finset.subset_univ _)) $$ H2
  iintro H2
  rw [wp_pure]; imodintro
  iapply HQ
  isplitl [H0]; · iexact H0
  isplitl [H1]; · iexact H1
  iapply (Entails.of_eq (congrArg (fun f => ((tc d).loc cc1_stg2_0 ↦{fullShare} f : sProp 𝕄))
    ((Memref.write_access_unit_zero_univ (Elt F) cc1_stg2_0 zeros2 inb_S16x1_S16x1_0_0 f2 _).trans
      (congrArg₂ k1_pay1 (Memref.readAt_unit_zero (Elt F) cc1_stg0_0 zeros2 inb_S16x50000_S16x50000_0_0 f0)
        (Memref.readAt_unit_zero (Elt F) cc1_stg1_0 zeros2 inb_S1x50000_S1x50000_0_0 f1))))) $$ H2

end Bodies

/-! ## The proof data -/

/-- The contents of every array of the TensorCores. -/
abbrev Vals (F : FTy → Type) : Type := (d : Dev nD) → (b : Ref sig .tc) → Buf (Elt F) ((tc d).loc b)

/-- No kernel takes prefetched tables. -/
abbrev adm : (p : Fin 2) → (pcfgs (F := F) p).Adm := fun p => (cfgs p).toPCfg_adm

/-- The waits a TensorCore may have behind it when the SparseCore call starts. -/
def low (d : Dev nD) : Set (SemLoc sig × HIx 1) := {p | (K (F := F)).lev (tc d, p.1) p.2 ≤ 0}

/-- The packing region from the arrays `V`: what the body leaves in each buffer, the starts owed throughout. -/
def dat0 (V : Vals F) (d : Dev nD) : Dat τ (Elt F) (HIx 1) ℕ UU ℕ cfg0 d where
  A w := V d (arrRef spec0 w)
  after w _ := match w with
    | ⟨0, _⟩ => V d main_arg0
    | ⟨1, _⟩ => k0_pay1 (V d main_arg0)
  Φ _ := scopedRest (Ix := HIx 1) (Name := ℕ) (U := UU) (Lvl := ℕ) (Val := Elt F) spec0 d
  q _ := fullShare
  owed _ := (K (F := F)).Otc d 0
  recorded _ := low (F := F) d

/-- The region of the linear term from the arrays `V`. -/
def dat1 (V : Vals F) (d : Dev nD) : Dat τ (Elt F) (HIx 1) ℕ UU ℕ cfg1 d where
  A w := V d (arrRef spec1 w)
  after w _ := match w with
    | ⟨0, _⟩ => V d main_arg0
    | ⟨1, _⟩ => V d main_v1
    | ⟨2, _⟩ => k1_pay1 (V d main_arg0) (V d main_v1)
  Φ _ := scopedRest (Ix := HIx 1) (Name := ℕ) (U := UU) (Lvl := ℕ) (Val := Elt F) spec1 d
  q _ := fullShare
  owed _ := (K (F := F)).Otc d 0
  recorded _ := low (F := F) d

/-- The proof data of both regions, from `V0` and from `V1`. -/
def pdats (V0 V1 : Vals F) : (p : Fin 2) → (d : Dev nD) → Dat τ (Elt F) (HIx 1) ℕ UU ℕ (Pipeline.pin (pcfgs (F := F)) adm p) d
  | ⟨0, _⟩ => dat0 V0
  | ⟨1, _⟩ => dat1 V1

section Blocks

variable (V : Vals F) (d : Dev nD)

/-- The packing call's block of the words is the whole array. -/
theorem blk0_0 (f : Buf (Elt F) ((tc d).loc main_arg0)) : ((cfg0.win 0).blk t0_0).view.read (Elt F) f = f :=
  Memref.read_access_unit_zero (Elt F) main_arg0 (show (fun a => (win0_0.index t0_0) a * main_arg0.ty.shape.size a) = fun _ => 0 from
    funext fun a => by fin_cases a <;> decide) (fun a => by fin_cases a <;> decide) f
/-- Its block of the packed spins is the whole array. -/
theorem blk0_1 (f : Buf (Elt F) ((tc d).loc main_v0)) : ((cfg0.win 1).blk t0_0).view.read (Elt F) f = f :=
  Memref.read_access_unit_zero (Elt F) main_v0 (show (fun a => (win0_1.index t0_0) a * main_v0.ty.shape.size a) = fun _ => 0 from
    funext fun a => by fin_cases a <;> decide) (fun a => by fin_cases a <;> decide) f
/-- The linear call's block of the words is the whole array. -/
theorem blk1_0 (f : Buf (Elt F) ((tc d).loc main_arg0)) : ((cfg1.win 0).blk t1_0).view.read (Elt F) f = f :=
  Memref.read_access_unit_zero (Elt F) main_arg0 (show (fun a => (win1_0.index t1_0) a * main_arg0.ty.shape.size a) = fun _ => 0 from
    funext fun a => by fin_cases a <;> decide) (fun a => by fin_cases a <;> decide) f
/-- Its block of the fields is the whole row. -/
theorem blk1_1 (f : Buf (Elt F) ((tc d).loc main_v1)) : ((cfg1.win 1).blk t1_0).view.read (Elt F) f = f :=
  Memref.read_access_unit_zero (Elt F) main_v1 (show (fun a => (win1_1.index t1_0) a * main_v1.ty.shape.size a) = fun _ => 0 from
    funext fun a => by fin_cases a <;> decide) (fun a => by fin_cases a <;> decide) f
/-- Its block of the linear terms is the whole column. -/
theorem blk1_2 (f : Buf (Elt F) ((tc d).loc main_v2)) : ((cfg1.win 2).blk t1_0).view.read (Elt F) f = f :=
  Memref.read_access_unit_zero (Elt F) main_v2 (show (fun a => (win1_2.index t1_0) a * main_v2.ty.shape.size a) = fun _ => 0 from
    funext fun a => by fin_cases a <;> decide) (fun a => by fin_cases a <;> decide) f

/-- The packing call finds the words of the spins in its staging buffer. -/
theorem before0_0 (x) : (dat0 V d).before 0 t0_0 x = V d main_arg0 := by
  unfold Dat.before; rw [if_pos (by decide)]; exact blk0_0 d (V d main_arg0)
/-- The linear call finds the words of the spins in its first staging buffer. -/
theorem before1_0 (x) : (dat1 V d).before 0 t1_0 x = V d main_arg0 := by
  unfold Dat.before; rw [if_pos (by decide)]; exact blk1_0 d (V d main_arg0)
/-- It finds the fields in its second. -/
theorem before1_1 (x) : (dat1 V d).before 1 t1_0 x = V d main_v1 := by
  unfold Dat.before; rw [if_pos (by decide)]; exact blk1_1 d (V d main_v1)

/-- What the packing region leaves in its result. -/
theorem final0 : (dat0 V d).arrAt 1 cfg0.N = k0_pay1 (V d main_arg0) := by
  have h : ((cfg0.win 1).blk t0_0).view.read (Elt F) ((dat0 V d).arrAt 1 cfg0.N) = (dat0 V d).flushed 1 t0_0 := by
    rw [show cfg0.N = t0_0.val + 1 from rfl, (dat0 V d).arrAt_succ (1 : Fin 2) t0_0, flush0_1, if_pos rfl]
    exact View.read_write_univ _ _
  exact (blk0_1 d _).symm.trans (h.trans rfl)

/-- What the region of the linear term leaves in its result. -/
theorem final1 : (dat1 V d).arrAt 2 cfg1.N = k1_pay1 (V d main_arg0) (V d main_v1) := by
  have h : ((cfg1.win 2).blk t1_0).view.read (Elt F) ((dat1 V d).arrAt 2 cfg1.N) = (dat1 V d).flushed 2 t1_0 := by
    rw [show cfg1.N = t1_0.val + 1 from rfl, (dat1 V d).arrAt_succ (2 : Fin 3) t1_0, flush1_2, if_pos rfl]
    exact View.read_write_univ _ _
  exact (blk1_2 d _).symm.trans (h.trans rfl)

/-- The packing kernel's body against its proof data. -/
theorem body0 : BodyObligation (dat0 V d) (defs₀ (F := F)) 𝒱₀ (none : HIx 1) Set.univ := fun t => by
  obtain rfl := fin_N0 t
  rw [bigSep_W0, bigSep_W0]
  simp only [owns_whole_eq]
  rw [show (dat0 V d).Φ t0_0.succ = (dat0 V d).Φ t0_0.castSucc from rfl,
    show (dat0 V d).owesAt none t0_0.succ = (dat0 V d).owesAt none t0_0.castSucc from rfl]
  iintro ⟨HΦ, HO, ⟨%x0, %f0, %hf0, H0⟩, ⟨%x1, %f1, -, H1⟩⟩
  rw [before0_0] at hf0
  subst hf0
  iapply (wp_pack d (V d main_arg0) f1 _)
  isplitl [H0]; · iexact H0
  isplitl [H1]; · iexact H1
  iintro ⟨H0, H1⟩
  isplitl [HΦ]; · iexact HΦ
  isplitl [HO]; · iexact HO
  isplitl [H0]
  · iexists _; isplitr
    swap
    · iexact H0
    · ipureintro; rfl
  · iexists _; isplitr
    swap
    · iexact H1
    · ipureintro; rfl

/-- The linear term's body against its proof data. -/
theorem body1 : BodyObligation (dat1 V d) (defs₀ (F := F)) 𝒱₀ (none : HIx 1) Set.univ := fun t => by
  obtain rfl := fin_N1 t
  rw [bigSep_W1, bigSep_W1]
  simp only [owns_whole_eq]
  rw [show (dat1 V d).Φ t1_0.succ = (dat1 V d).Φ t1_0.castSucc from rfl,
    show (dat1 V d).owesAt none t1_0.succ = (dat1 V d).owesAt none t1_0.castSucc from rfl]
  iintro ⟨HΦ, HO, ⟨%x0, %f0, %hf0, H0⟩, ⟨%x1, %f1, %hf1, H1⟩, ⟨%x2, %f2, -, H2⟩⟩
  rw [before1_0] at hf0
  rw [before1_1] at hf1
  subst hf0
  subst hf1
  iapply (wp_hx d (V d main_arg0) (V d main_v1) f2 _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists _; isplitr
    swap
    · iexact H0
    · ipureintro; rfl
  isplitl [H1]
  · iexists _; isplitr
    swap
    · iexact H1
    · ipureintro; rfl
  · iexists _; isplitr
    swap
    · iexact H2
    · ipureintro; rfl

end Blocks

/-! ## The regions -/

/-- What a TensorCore owes before the SparseCore call, its waits so far all below the call's. -/
def owesTc (d : Dev nD) : sProp 𝕄 := iprop(∃ W, ⌜∀ p ∈ W, p ∈ low (F := F) d⌝ ∗ owes (tc d) ((K (F := F)).Otc d 0) W)

/-- The TensorCore owes nothing outside the handshakes. -/
theorem otc_none (d : Dev nD) (g : GSem nD τ sig) : (K (F := F)).Otc (N := 1) d 0 g none = 0 := by
  by_contra h
  have h1 := (K (F := F)).lev_of_Otc_pos (Nat.pos_of_ne_zero h)
  have h2 : (K (F := F)).lev (N := 1) g none = 0 := rfl
  omega

/-- Whatever a region records is below the call. -/
theorem low_none (d : Dev nD) (s : SemLoc sig) : (s, (none : HIx 1)) ∈ low (F := F) d := Nat.le_refl 0

/-- Whatever a region's waits may record is below the call. -/
theorem bound_low (d : Dev nD) {c : Pipeline.Cfg sig Λ₀} (dt : Dat τ (Elt F) (HIx 1) ℕ UU ℕ c d) (t) (h : dt.recorded t = low (F := F) d)
    (p : SemLoc sig × HIx 1) (hp : p ∈ dt.bound none t) : p ∈ low (F := F) d := by
  rcases hp with hp | ⟨w, s, rfl⟩
  · exact h ▸ hp
  · exact low_none d _

/-- The levels the launch assigned. -/
abbrev LK := (K (F := F)).L (nD := nD) (N := 1)
/-- The level of each wait. -/
abbrev lvK := (K (F := F)).lev (nD := nD) (N := 1)

section Segs

variable (V0 V1 : Vals F)

/-- The packing region: from every array at `V0` to every array at `V0'`, which has the packed spins in and else agrees. -/
def seg0 (V0' : Vals F) (ho : ∀ d, V0' d main_v0 = k0_pay1 (V0 d main_arg0)) (hn : ∀ d b, b ≠ main_v0 → V0' d b = V0 d b) :
    RegionSeg (pcfgs (F := F)) adm (pdats V0 V1) (none : HIx 1) (defs₀ (F := F)) 𝒱₀ (LK (F := F)) (lvK (F := F)) 0 where
  win := launch0.win.to₀
  block_pos := launch0.block_pos
  stage_whole := launch0.stage_whole
  K := PEmpty
  osem k := k.elim
  ho := Pipeline.OwnSemFacts.none _
  hbody d := (body0 V0 d).loose
  hwaits d := Pipeline.cellsWaits_intro _ _ _ _ _ fun _ _ _ => (K (F := F)).mayWait_none _ (otc_none d)
  pre d := iprop(unscopedBufs d (V0 d) ∗ owesTc (F := F) d)
  post d := iprop(unscopedBufs d (V0' d) ∗ owesTc (F := F) d)
  X _ := BI.emp
  Y _ := BI.emp
  Z d := unscopedRest (Ix := HIx 1) (Name := ℕ) (U := UU) (Lvl := ℕ) spec0 d (V0 d)
  hentry d := by
    rw [Pipeline.ownSems0_none]
    have hs := Pipeline.arrays_of_unscopedBufs (p := 0) (pcfgs (F := F)) adm (pdats V0 V1) launch0.win launch0.arr_whole d
      ((pdats V0 V1 0 d).share_full fun _ => rfl) (V0 d) fun _ => rfl
    iintro ⟨⟨Hu, HO⟩, -, -⟩
    ihave H := hs $$ Hu
    icases H with ⟨Ha, Hr⟩
    imodintro
    isplitl [Ha]; · iexact Ha
    isplitr; · rw [Pipeline.prefHeld_of_none _ rfl]; iempintro
    isplitl [HO]
    · unfold owesTc
      icases HO with ⟨%W, %hW, HO⟩
      unfold Dat.owesAt Pipeline.owesWithin
      iexists W; isplitr
      · ipureintro; exact fun p hp => Or.inl (hW p hp)
      · iexact HO
    isplitr; · iempintro
    iexact Hr
  hin d := by
    rw [show (pdats V0 V1 0 d).Φ 0 = scopedRest (Ix := HIx 1) (Name := ℕ) (U := UU) (Lvl := ℕ) (Val := Elt F) spec0 d from rfl]
    iintro ⟨-, -, H⟩; iexact H
  hout d := by
    rw [Pipeline.ownSems0_none,
      show (pdats V0 V1 0 d).Φ (Fin.last _) = scopedRest (Ix := HIx 1) (Name := ℕ) (U := UU) (Lvl := ℕ) (Val := Elt F) spec0 d from rfl]
    iintro H
    isplitr; · iempintro
    isplitr; · iempintro
    iexact H
  hexit d := by
    have hj := Pipeline.unscopedBufs_of_arrays (p := 0) (pcfgs (F := F)) adm (Ix := HIx 1) (Name := ℕ) (U := UU) (Lvl := ℕ) launch0.win launch0.arr_whole d
      (pdats V0 V1) ((pdats V0 V1 0 d).share_full fun _ => rfl) (V0 d) (V0' d) ((pdats V0 V1 0 d).arrAt · cfg0.N)
      (fun w => by
        fin_cases w
        · exact ((pdats V0 V1 0 d).arrAt_in 0 rfl _).trans (hn d main_arg0 (by decide)).symm
        · exact (final0 V0 d).trans (ho d).symm)
      (fun b hb => hn d b fun h => hb (h ▸ Finset.mem_image.mpr ⟨1, Finset.mem_univ _, rfl⟩))
    iintro ⟨Ha, HO, -, Hr⟩
    imodintro
    isplitl [Ha Hr]
    · iapply hj; isplitl [Ha] <;> iassumption
    unfold owesTc Dat.owesAt Pipeline.owesWithin
    icases HO with ⟨%W, %hW, HO⟩
    iexists W; isplitr
    · ipureintro; exact fun p hp => bound_low d (dat0 V0 d) _ rfl p (hW hp)
    · iexact HO

/-- The region of the linear term: likewise, with the linear terms in. -/
def seg1 (V1' : Vals F) (ho : ∀ d, V1' d main_v2 = k1_pay1 (V1 d main_arg0) (V1 d main_v1)) (hn : ∀ d b, b ≠ main_v2 → V1' d b = V1 d b) :
    RegionSeg (pcfgs (F := F)) adm (pdats V0 V1) (none : HIx 1) (defs₀ (F := F)) 𝒱₀ (LK (F := F)) (lvK (F := F)) 1 where
  win := launch1.win.to₀
  block_pos := launch1.block_pos
  stage_whole := launch1.stage_whole
  K := PEmpty
  osem k := k.elim
  ho := Pipeline.OwnSemFacts.none _
  hbody d := (body1 V1 d).loose
  hwaits d := Pipeline.cellsWaits_intro _ _ _ _ _ fun _ _ _ => (K (F := F)).mayWait_none _ (otc_none d)
  pre d := iprop(unscopedBufs d (V1 d) ∗ owesTc (F := F) d)
  post d := iprop(unscopedBufs d (V1' d) ∗ owesTc (F := F) d)
  X _ := BI.emp
  Y _ := BI.emp
  Z d := unscopedRest (Ix := HIx 1) (Name := ℕ) (U := UU) (Lvl := ℕ) spec1 d (V1 d)
  hentry d := by
    rw [Pipeline.ownSems0_none]
    have hs := Pipeline.arrays_of_unscopedBufs (p := 1) (pcfgs (F := F)) adm (pdats V0 V1) launch1.win launch1.arr_whole d
      ((pdats V0 V1 1 d).share_full fun _ => rfl) (V1 d) fun _ => rfl
    iintro ⟨⟨Hu, HO⟩, -, -⟩
    ihave H := hs $$ Hu
    icases H with ⟨Ha, Hr⟩
    imodintro
    isplitl [Ha]; · iexact Ha
    isplitr; · rw [Pipeline.prefHeld_of_none _ rfl]; iempintro
    isplitl [HO]
    · unfold owesTc
      icases HO with ⟨%W, %hW, HO⟩
      unfold Dat.owesAt Pipeline.owesWithin
      iexists W; isplitr
      · ipureintro; exact fun p hp => Or.inl (hW p hp)
      · iexact HO
    isplitr; · iempintro
    iexact Hr
  hin d := by
    rw [show (pdats V0 V1 1 d).Φ 0 = scopedRest (Ix := HIx 1) (Name := ℕ) (U := UU) (Lvl := ℕ) (Val := Elt F) spec1 d from rfl]
    iintro ⟨-, -, H⟩; iexact H
  hout d := by
    rw [Pipeline.ownSems0_none,
      show (pdats V0 V1 1 d).Φ (Fin.last _) = scopedRest (Ix := HIx 1) (Name := ℕ) (U := UU) (Lvl := ℕ) (Val := Elt F) spec1 d from rfl]
    iintro H
    isplitr; · iempintro
    isplitr; · iempintro
    iexact H
  hexit d := by
    have hj := Pipeline.unscopedBufs_of_arrays (p := 1) (pcfgs (F := F)) adm (Ix := HIx 1) (Name := ℕ) (U := UU) (Lvl := ℕ) launch1.win launch1.arr_whole d
      (pdats V0 V1) ((pdats V0 V1 1 d).share_full fun _ => rfl) (V1 d) (V1' d) ((pdats V0 V1 1 d).arrAt · cfg1.N)
      (fun w => by
        fin_cases w
        · exact ((pdats V0 V1 1 d).arrAt_in 0 rfl _).trans (hn d main_arg0 (by decide)).symm
        · exact ((pdats V0 V1 1 d).arrAt_in 1 rfl _).trans (hn d main_v1 (by decide)).symm
        · exact (final1 V1 d).trans (ho d).symm)
      (fun b hb => hn d b fun h => hb (h ▸ Finset.mem_image.mpr ⟨2, Finset.mem_univ _, rfl⟩))
    iintro ⟨Ha, HO, -, Hr⟩
    imodintro
    isplitl [Ha Hr]
    · iapply hj; isplitl [Ha] <;> iassumption
    unfold owesTc Dat.owesAt Pipeline.owesWithin
    icases HO with ⟨%W, %hW, HO⟩
    iexists W; isplitr
    · ipureintro; exact fun p hp => bound_low d (dat1 V1 d) _ rfl p (hW hp)
    · iexact HO

end Segs

end Cert.Proof.Ising

end
-- ==== Proof.Main.lean ====
/-
  @main on the TensorCore — the two regions, the SparseCore call between the host's operations — and the run of the whole program:
  every array at what the operations, the regions and the tiles make of the arguments.
-/
module

public import proofs.«01_k».proof.Proof.Regions
public import Idealize.ShloMosaic.Lib.SparseCore.Quiescent
public import Idealize.ShloMosaic.Lib.StableHlo.Run

@[expose] public section

noncomputable section

namespace Cert.Proof.Ising

open Cert.KernelIdeal Cert.KernelIdeal.Gen
open Idealize.ShloMosaic hiding T
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe Idealize.ShloMosaic.Rounds
open Idealize.ShloMosaic.StableHlo (held after seq wp_seq)
open Idealize.ShloMosaic.Transfers (shareTok shareDrop)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's parts -/

/-- The host's operations before the first region: the two constants. -/
abbrev opsA : List (HloOp τ sig (Elt F)) :=
  [StableHlo.nullary main_c (fun i => lit0 (S16.rowMajor i)), StableHlo.nullary main_c_0 (constantI S16 1 0#1)]

/-- Between the regions: the fields as one row. -/
abbrev opsB : List (HloOp τ sig (Elt F)) :=
  [StableHlo.reshape main_arg1 main_v1 (rfl : (.f32 : EltTy) = .f32) shapeCasts_S50000_S1x50000]

/-- After the SparseCore call: the partial sums added and put in order, and the linear terms added. -/
abbrev opsC : List (HloOp τ sig (Elt F)) :=
  [StableHlo.reshape main_v3 main_v4 (rfl : (.f32 : EltTy) = .f32) shapeCasts_S32x4x16_S4x8x4x16,
   StableHlo.nullary main_cst (constant S_ .f32 0x00000000#32),
   StableHlo.binary main_v4 main_cst main_v5 ((fun x v => Host.reduceAdd x v reducesTo_S4x8x4x16_S4x4_d1_3 h_S_) : (⟨S4x8x4x16, .f32⟩ : BufTy).Contents (Elt F) → (⟨S_, .f32⟩ : BufTy).Contents (Elt F) → (⟨S4x4, .f32⟩ : BufTy).Contents (Elt F)),
   StableHlo.reshape main_v5 main_v6 (rfl : (.f32 : EltTy) = .f32) shapeCasts_S4x4_S16,
   StableHlo.nullary main_c_1 (constantI S_ 32 16#32),
   StableHlo.unary main_c_1 main_v7 (broadcastInDim S16 ![] bcast_S_S16 : (⟨S_, .i32⟩ : BufTy).Contents (Elt F) → (⟨S16, .i32⟩ : BufTy).Contents (Elt F)),
   StableHlo.binary main_c main_v7 main_v8 (addi : (⟨S16, .i32⟩ : BufTy).Contents (Elt F) → (⟨S16, .i32⟩ : BufTy).Contents (Elt F) → (⟨S16, .i32⟩ : BufTy).Contents (Elt F)),
   StableHlo.ternary main_c_0 main_v8 main_c main_v9 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
   StableHlo.unary main_v9 main_v10 (broadcastInDim S16x1 ![0] bcast_S16_S16x1_0 : (⟨S16, .i32⟩ : BufTy).Contents (Elt F) → (⟨S16x1, .i32⟩ : BufTy).Contents (Elt F)),
   StableHlo.binary main_v6 main_v10 main_v11 ((fun x i => Host.gather gather_S16_S16x1_S16_n_0_n_n_0_1_1 x i) : (⟨S16, .f32⟩ : BufTy).Contents (Elt F) → (⟨S16x1, .i32⟩ : BufTy).Contents (Elt F) → (⟨S16, .f32⟩ : BufTy).Contents (Elt F)),
   StableHlo.reshape main_v2 main_v12 (rfl : (.f32 : EltTy) = .f32) shapeCasts_S16x1_S16,
   StableHlo.binary main_v11 main_v12 main_v13 (addf : (⟨S16, .f32⟩ : BufTy).Contents (Elt F) → (⟨S16, .f32⟩ : BufTy).Contents (Elt F) → (⟨S16, .f32⟩ : BufTy).Contents (Elt F))]

/-- A region's call as @main makes it. -/
abbrev callTc (p : Fin 2) : Prog (TpuEff nD τ sig (Elt F) (SparseCore.Sig (ΛP (F := F)) 1) .tc) PUnit :=
  Prog.lift (.customCall (SparseCore.inner (Pipeline.entry p)) ())

/-- @main is the constants, the first region, the reshape, the second region, the SparseCore call and the host's operations after it, in this order. -/
theorem main_parts (d : Dev nD) : main (F := F) d
    = (seq opsA >>= fun _ => callTc 0 >>= fun _ => seq opsB >>= fun _ => callTc 1 >>= fun _ => (K (F := F)).run d 0 >>= fun _ => seq opsC >>= fun _ => pure ⟨⟩) := rfl

/-! ## The contents of the arrays -/

/-- The TensorCore's unscoped arrays. -/
def UC : Finset (DevRef τ sig) := (StableHlo.tcRefs τ sig).filter fun b => ¬ b.isScoped

/-- The device's unscoped arrays at a valuation are `UC` held at it. -/
theorem unscoped_held (d : Dev nD) (W : Valuation τ sig (Elt F)) : (unscopedBufs d (fun b => W b) : sProp 𝕄) = held (tc d) UC W := by
  unfold unscopedBufs held UC StableHlo.tcRefs
  rw [Finset.filter_map, BI.bigSep_map]
  rfl

/-- An array as the valuations name it. -/
abbrev rf (b : Ref sig .tc) : DevRef τ sig := Proc.devRef .tc b

/-- The arrays: at the launch; -/
def W0 (d : Dev nD) : Valuation τ sig (Elt F) := fun b => m (d, b)
/-- at the first region; -/
def W1 (d : Dev nD) : Valuation τ sig (Elt F) := after opsA (W0 m d)
/-- after it; -/
def W2 (d : Dev nD) : Valuation τ sig (Elt F) := Function.update (W1 m d) (rf main_v0) (packed m d)
/-- at the second region; -/
def W3 (d : Dev nD) : Valuation τ sig (Elt F) := after opsB (W2 m d)
/-- The linear terms, a column. -/
def linear (d : Dev nD) : Vec F S16x1 .f32 := k1_pay1 (m ((tc d).loc main_arg0)) (shapeCast S1x50000 (m ((tc d).loc main_arg1)) shapeCasts_S50000_S1x50000)
/-- after it; -/
def W4 (d : Dev nD) : Valuation τ sig (Elt F) := Function.update (W3 m d) (rf main_v2) (linear m d)
/-- after the SparseCore call; -/
def W5 (d : Dev nD) : Valuation τ sig (Elt F) := Function.update (W4 m d) (rf main_v3) (parts m d)
/-- at the end. -/
def W6 (d : Dev nD) : Valuation τ sig (Elt F) := after opsC (W5 m d)

/-- At the first region the words of the spins are as launched. -/
theorem W1_arg0 (d : Dev nD) : W1 m d (rf main_arg0) = m ((tc d).loc main_arg0) := by
  unfold W1; after_results_simp; rfl
/-- The first region changes no array but the packed spins. -/
theorem W2_of (d : Dev nD) (b : Ref sig .tc) (hb : b ≠ main_v0) : W2 m d (rf b) = W1 m d (rf b) :=
  Function.update_of_ne (fun h => hb (Proc.devRef_injective _ h)) _ _
/-- The second region changes no array but the linear terms. -/
theorem W4_of (d : Dev nD) (b : Ref sig .tc) (hb : b ≠ main_v2) : W4 m d (rf b) = W3 m d (rf b) :=
  Function.update_of_ne (fun h => hb (Proc.devRef_injective _ h)) _ _
/-- At the second region the words of the spins are as launched. -/
theorem W3_arg0 (d : Dev nD) : W3 m d (rf main_arg0) = m ((tc d).loc main_arg0) := by
  unfold W3; after_results_simp; exact (W2_of m d main_arg0 (by decide)).trans (W1_arg0 m d)
/-- At the second region the row of fields is the launched fields reshaped. -/
theorem W3_v1 (d : Dev nD) : W3 m d (rf main_v1) = shapeCast S1x50000 (m ((tc d).loc main_arg1)) shapeCasts_S50000_S1x50000 := by
  have h : W2 m d (rf main_arg1) = m ((tc d).loc main_arg1) := by
    rw [W2_of m d main_arg1 (by decide)]; unfold W1; after_results_simp; rfl
  unfold W3; after_results_simp
  rw [h]; rfl
/-- After the second region the packed spins are there. -/
theorem W4_v0 (d : Dev nD) : W4 m d (rf main_v0) = packed m d := by
  rw [W4_of m d main_v0 (by decide)]; unfold W3; after_results_simp; exact Function.update_self _ _ _
/-- After the second region the couplings are as launched. -/
theorem W4_arg2 (d : Dev nD) : W4 m d (rf main_arg2) = m ((tc d).loc main_arg2) := by
  rw [W4_of m d main_arg2 (by decide)]; unfold W3; after_results_simp; rw [W2_of m d main_arg2 (by decide)]; unfold W1; after_results_simp; rfl
/-- After the second region the first ends are as launched. -/
theorem W4_arg3 (d : Dev nD) : W4 m d (rf main_arg3) = m ((tc d).loc main_arg3) := by
  rw [W4_of m d main_arg3 (by decide)]; unfold W3; after_results_simp; rw [W2_of m d main_arg3 (by decide)]; unfold W1; after_results_simp; rfl
/-- After the second region the second ends are as launched. -/
theorem W4_arg4 (d : Dev nD) : W4 m d (rf main_arg4) = m ((tc d).loc main_arg4) := by
  rw [W4_of m d main_arg4 (by decide)]; unfold W3; after_results_simp; rw [W2_of m d main_arg4 (by decide)]; unfold W1; after_results_simp; rfl
/-- After the second region the SparseCore call's result is as launched. -/
theorem W4_v3 (d : Dev nD) : W4 m d (rf main_v3) = m ((tc d).loc main_v3) := by
  rw [W4_of m d main_v3 (by decide)]; unfold W3; after_results_simp; rw [W2_of m d main_v3 (by decide)]; unfold W1; after_results_simp; rfl

/-! ## The region's calls -/

/-- What the first region is entered from and left at; the same for the second. -/
abbrev val0 : Vals F := fun d b => W1 m d (rf b)
/-- The arrays after the first region. -/
abbrev val0' : Vals F := fun d b => W2 m d (rf b)
/-- The arrays at the second region. -/
abbrev val1 : Vals F := fun d b => W3 m d (rf b)
/-- The arrays after the second region. -/
abbrev val1' : Vals F := fun d b => W4 m d (rf b)

/-- A region's ghost state on device `d`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- A region's call on device `d`, in the launch's label table: from the region's entry state to its exit state. -/
theorem wp_callTc (V0 V1 : Vals F) [∀ e, Nonempty (Elt F e)] (p : Fin 2) (R : Pipeline.RegionSeg (pcfgs (F := F)) adm (pdats V0 V1) (none : HIx 1) (defs₀ (F := F)) 𝒱₀ (LK (F := F)) (lvK (F := F)) p)
    (d : Dev nD) (Q : PUnit.{1} → sProp 𝕄) (A B : sProp 𝕄) (hA : R.pre d = A) (hB : R.post d = B) :
    iprop((iprop(boundary (T d) ∗ B) -∗ Q ⟨⟩) ∗ boundary (T d) ∗ A ∗ levAts (LK (F := F)) (lvK (F := F))
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ())) Q := by
  subst hA; subst hB
  have h := Pipeline.RegionSeg.wp (pcfgs (F := F)) adm (pdats V0 V1) (none : HIx 1) cellOf_inj EP (defs₀ (F := F)) 𝒱₀ (LK (F := F)) (lvK (F := F)) R d none (fun _ h => nomatch h) .ret Q
  have h2 := (K (F := F)).wp_liftProg (D (F := F)) 𝒱 (T d) Set.univ none (.op (.customCall (Pipeline.entry p) ()) .ret) Q
  refine BIBase.Entails.trans (BIBase.Entails.trans ?_ h) h2
  rw [wp_ret]
  iintro ⟨HQ, H⟩
  isplitl [HQ]
  · iintro H
    imodintro
    iapply HQ $$ H
  iexact H
/-- After the first region the packed spins are there. -/
theorem W2_v0 (d : Dev nD) : W2 m d (rf main_v0) = packed m d := by unfold W2; exact Function.update_self _ _ _
/-- After the second region the linear terms are there. -/
theorem W4_v2 (d : Dev nD) : W4 m d (rf main_v2) = linear m d := by unfold W4; exact Function.update_self _ _ _
/-- The first region leaves the packing of the words that it found. -/
theorem ho0 (d : Dev nD) : val0' m d main_v0 = k0_pay1 (val0 m d main_arg0) := by
  show W2 m d (rf main_v0) = k0_pay1 (W1 m d (rf main_arg0))
  rw [W1_arg0]; exact W2_v0 m d
/-- The second region leaves the linear terms of the words and the fields that it found. -/
theorem ho1 (d : Dev nD) : val1' m d main_v2 = k1_pay1 (val1 m d main_arg0) (val1 m d main_v1) := by
  show W4 m d (rf main_v2) = k1_pay1 (W3 m d (rf main_arg0)) (W3 m d (rf main_v1))
  rw [W3_arg0, W3_v1]; exact W4_v2 m d

/-- The packing region, entered and left at @main's arrays. -/
abbrev segm0 := seg0 (val0 m) (val1 m) (val0' m)
  (ho0 m) (fun d b hb => W2_of m d b hb)
/-- The linear term's region, the same. -/
abbrev segm1 := seg1 (val0 m) (val1 m) (val1' m)
  (ho1 m) (fun d b hb => W4_of m d b hb)

/-- The packing region's call. -/
theorem wp_call0 [∀ e, Nonempty (Elt F e)] (d : Dev nD) (Q : PUnit.{1} → sProp 𝕄) :
    iprop(boundary (tc d) ∗ held (tc d) UC (W1 m d) ∗ owesTc (F := F) d ∗ levAts (LK (F := F)) (lvK (F := F)) ∗ ghost (F := F) 0 d
        ∗ (iprop(boundary (tc d) ∗ held (tc d) UC (W2 m d) ∗ owesTc (F := F) d) -∗ Q ⟨⟩))
      ⊢ wp frame (wpE ((K (F := F)).defs (D (F := F))) 𝒱 (tc d) none) Set.univ (callTc (F := F) 0) Q := by
  refine BIBase.Entails.trans ?_ (wp_callTc (val0 m) (val1 m) 0 (segm0 m) d Q iprop(unscopedBufs d (val0 m d) ∗ owesTc (F := F) d) iprop(unscopedBufs d (val0' m d) ∗ owesTc (F := F) d) rfl rfl)
  rw [← unscoped_held, ← unscoped_held]
  unfold ghost
  iintro ⟨Hb, Hh, HO, Hl, ⟨Hg, Ht⟩, HQ⟩
  isplitl [HQ]
  · iintro ⟨Hb, Hh, HO⟩
    iapply HQ
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

/-- The linear term's call. -/
theorem wp_call1 [∀ e, Nonempty (Elt F e)] (d : Dev nD) (Q : PUnit.{1} → sProp 𝕄) :
    iprop(boundary (tc d) ∗ held (tc d) UC (W3 m d) ∗ owesTc (F := F) d ∗ levAts (LK (F := F)) (lvK (F := F)) ∗ ghost (F := F) 1 d
        ∗ (iprop(boundary (tc d) ∗ held (tc d) UC (W4 m d) ∗ owesTc (F := F) d) -∗ Q ⟨⟩))
      ⊢ wp frame (wpE ((K (F := F)).defs (D (F := F))) 𝒱 (tc d) none) Set.univ (callTc (F := F) 1) Q := by
  refine BIBase.Entails.trans ?_ (wp_callTc (val0 m) (val1 m) 1 (segm1 m) d Q iprop(unscopedBufs d (val1 m d) ∗ owesTc (F := F) d) iprop(unscopedBufs d (val1' m d) ∗ owesTc (F := F) d) rfl rfl)
  rw [← unscoped_held, ← unscoped_held]
  unfold ghost
  iintro ⟨Hb, Hh, HO, Hl, ⟨Hg, Ht⟩, HQ⟩
  isplitl [HQ]
  · iintro ⟨Hb, Hh, HO⟩
    iapply HQ
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

/-! ## The SparseCore call -/

/-- The arrays the SparseCore call takes. -/
abbrev five : Finset (DevRef τ sig) := {rf main_arg3, rf main_arg4, rf main_arg2, rf main_v0, rf main_v3}

/-- The call's arrays are unscoped arrays of the TensorCore. -/
theorem five_sub : five ⊆ UC := by decide

/-- The call's five arrays, one by one. -/
theorem held_five (d : Dev nD) (W : Valuation τ sig (Elt F)) :
    (held (tc d) five W : sProp 𝕄) = iprop(((tc d).loc main_arg3 ↦{fullShare} W (rf main_arg3)) ∗ ((tc d).loc main_arg4 ↦{fullShare} W (rf main_arg4))
      ∗ ((tc d).loc main_arg2 ↦{fullShare} W (rf main_arg2)) ∗ ((tc d).loc main_v0 ↦{fullShare} W (rf main_v0)) ∗ ((tc d).loc main_v3 ↦{fullShare} W (rf main_v3))) := by
  unfold held five
  rw [SparseCore.bigSep_insert' (by decide), SparseCore.bigSep_insert' (by decide), SparseCore.bigSep_insert' (by decide), SparseCore.bigSep_insert' (by decide), bigSep_singleton]

/-- Five assertions, the first four set apart. -/
theorem regroup (A B C E G : sProp 𝕄) : iprop(A ∗ B ∗ C ∗ E ∗ G) = iprop((A ∗ B ∗ C ∗ E) ∗ G) := by
  have h1 : iprop(A ∗ B ∗ C ∗ E ∗ G) ⊢ iprop((A ∗ B ∗ C ∗ E) ∗ G) := by
    iintro ⟨H3, H4, H2, H0, Hv⟩
    isplitr [Hv]
    · isplitl [H3]; · iexact H3
      isplitl [H4]; · iexact H4
      isplitl [H2]; · iexact H2
      iexact H0
    · iexact Hv
  have h2 : iprop((A ∗ B ∗ C ∗ E) ∗ G) ⊢ iprop(A ∗ B ∗ C ∗ E ∗ G) := by
    iintro ⟨⟨H3, H4, H2, H0⟩, Hv⟩
    isplitl [H3]; · iexact H3
    isplitl [H4]; · iexact H4
    isplitl [H2]; · iexact H2
    isplitl [H0]; · iexact H0
    iexact Hv
  exact Idealize.SL.BI.Entails.antisymm h1 h2

/-- The arrays before the call: the tiles' inputs, the result as launched, and the rest. -/
theorem before_call (d : Dev nD) :
    (held (tc d) UC (W4 m d) : sProp 𝕄) = iprop((shares m d fullShare ∗ ((tc d).loc main_v3 ↦{fullShare} m ((tc d).loc main_v3))) ∗ held (tc d) (UC \ five) (W4 m d)) := by
  rw [StableHlo.held_sub_split (tc d) five_sub, held_five, W4_arg2, W4_arg3, W4_arg4, W4_v0, W4_v3]
  unfold shares
  exact congrArg (fun X => iprop(X ∗ _)) (regroup _ _ _ _ _)

/-- The SparseCore call changes no array but its result. -/
theorem W5_of (d : Dev nD) (b : DevRef τ sig) (hb : b ≠ rf main_v3) : W5 m d b = W4 m d b := Function.update_of_ne hb _ _

/-- The arrays after it. -/
theorem after_call (d : Dev nD) :
    (held (tc d) UC (W5 m d) : sProp 𝕄) = iprop((shares m d fullShare ∗ ((tc d).loc main_v3 ↦{fullShare} parts m d)) ∗ held (tc d) (UC \ five) (W4 m d)) := by
  rw [StableHlo.held_sub_split (tc d) five_sub, held_five, W5_of m d _ (by decide), W5_of m d _ (by decide), W5_of m d _ (by decide), W5_of m d _ (by decide),
    W4_arg2, W4_arg3, W4_arg4, W4_v0, show W5 m d (rf main_v3) = parts m d from Function.update_self _ _ _,
    StableHlo.held_congr (tc d) (S := UC \ five) (V := W5 m d) (V' := W4 m d) fun b hb => W5_of m d b fun h => (Finset.mem_sdiff.mp hb).2 (by subst h; decide)]
  unfold shares
  exact congrArg (fun X => iprop(X ∗ _)) (regroup _ _ _ _ _)

/-- What the SparseCores take together: their shares of the operands, and the result as launched. -/
theorem st_eq (d : Dev nD) : (bigSep Finset.univ fun c : Fin ((K (F := F)).nCore 0) => (P m).st 0 d c)
    = iprop((bigSep Finset.univ fun c : Fin ((K (F := F)).nCore 0) => shares m d (qc c)) ∗ ((tc d).loc main_v3 ↦{fullShare} m ((tc d).loc main_v3))) := by
  rw [all_blocks, ← bigSep_sep']; rfl
/-- What they give back together: their shares of the operands, and the result filled. -/
theorem dn_eq (d : Dev nD) : (bigSep Finset.univ fun c : Fin ((K (F := F)).nCore 0) => (P m).dn 0 d c)
    = iprop((bigSep Finset.univ fun c : Fin ((K (F := F)).nCore 0) => shares m d (qc c)) ∗ ((tc d).loc main_v3 ↦{fullShare} parts m d)) := by
  rw [all_blocks, ← bigSep_sep']; rfl

end Cert.Proof.Ising

end
-- ==== Proof.Whole.lean ====
/-
  The run of the whole program: @main on the TensorCore put together from its parts, the launch's ghost state, and the arrays at the end.
-/
module

public import proofs.«01_k».proof.Proof.Main

@[expose] public section

noncomputable section

namespace Cert.Proof.Ising

open Cert.KernelIdeal Cert.KernelIdeal.Gen
open Idealize.ShloMosaic hiding T
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.TcCoe Idealize.ShloMosaic.Rounds
open Idealize.ShloMosaic.StableHlo (held after seq wp_seq)
open Idealize.ShloMosaic.Transfers (shareTok shareDrop)

variable {F : FTy → Type} [FloatOps F]

local notation "𝕄" => MT nD τ sig (HIx 1) (Elt F) ℕ UU ℕ

variable (m : (ℓ : Loc nD τ sig) → Buf (Elt F) ℓ) (ρ : Dev nD → PrngReg)

/-- What the TensorCore has promised before the first SparseCore call, taken out of its state, and put back. -/
theorem st_open (d : Dev nD) : ((K (F := F)).tcSt EH d 0 : sProp 𝕄) ⊢ iprop(owesTc (F := F) d ∗ (owesTc (F := F) d -∗ (K (F := F)).tcSt EH d 0)) := by
  unfold SparseCore.Cfg.tcSt owesTc
  iintro ⟨⟨%W, %hW, HO⟩, Hr⟩
  isplitl [HO]
  · iexists W; isplitr
    · ipureintro; exact hW
    · iexact HO
  iintro ⟨%W', %hW', HO⟩
  isplitl [HO]
  · iexists W'; isplitr
    · ipureintro; exact hW'
    · iexact HO
  iexact Hr

/-- The two regions' ghost state on device `d`. -/
def ghosts (d : Dev nD) : sProp 𝕄 := iprop(ghost (F := F) 0 d ∗ ghost (F := F) 1 d)

/-- The SparseCore call: the result's array at the tiles' sums, everything else as before. -/
theorem wp_call2 [∀ e, Nonempty (Elt F e)] (κ : GSem nD τ sig → ℕ) (d : Dev nD) (Q : PUnit.{1} → sProp 𝕄) :
    iprop((K (F := F)).ctx EH (P m) κ ∗ (K (F := F)).tcSt EH d 0 ∗ held (tc d) UC (W4 m d)
        ∗ (iprop((K (F := F)).tcSt EH d 1 ∗ held (tc d) UC (W5 m d)) -∗ Q ⟨⟩))
      ⊢ wp frame (wpE ((K (F := F)).defs (D (F := F))) 𝒱 (tc d) none) Set.univ ((K (F := F)).run d 0) Q := by
  have hsh := shares_toks m d fullShare 2
  rw [before_call, after_call]
  iintro ⟨#Hctx, Hst, ⟨⟨Hs, Hv⟩, Hr⟩, HQ⟩
  ihave Hs' := hsh.1 $$ Hs
  icases Hs' with ⟨Hd, Ht⟩
  iapply ((K (F := F)).wp_run (D (F := F)) 𝒱 (EH := EH) (P := P m) κ d 0)
  isplitr; · iexact Hctx
  isplitl [Hst]; · iexact Hst
  isplitl [Ht Hv]
  · iapply (Entails.of_eq (st_eq m d).symm)
    isplitl [Ht]; · iexact Ht
    iexact Hv
  iintro ⟨Hst, Hdn⟩
  ihave Hdn' := (Entails.of_eq (dn_eq m d)) $$ Hdn
  icases Hdn' with ⟨Ht, Hv⟩
  iapply HQ
  isplitl [Hst]; · iexact Hst
  isplitr [Hr]
  · isplitr [Hv]
    · iapply hsh.2
      isplitl [Hd]; · iexact Hd
      iexact Ht
    · iexact Hv
  iexact Hr

/-- At the end every array is held at its last contents. -/
abbrev FIN (d : Dev nD) : sProp 𝕄 := held (tc d) UC (W6 m d)

/-- The operations before the first region allocate nothing; -/
theorem opsA_fresh : ∀ op ∈ (opsA : List (HloOp τ sig (Elt F))), op.fresh = ∅ := by
  intro _ h; (repeat (cases h with | head => rfl | tail _ h => ?_)); exact nomatch h
/-- nor do those between the regions; -/
theorem opsB_fresh : ∀ op ∈ (opsB : List (HloOp τ sig (Elt F))), op.fresh = ∅ := by
  intro _ h; (repeat (cases h with | head => rfl | tail _ h => ?_)); exact nomatch h
/-- nor those after the call. -/
theorem opsC_fresh : ∀ op ∈ (opsC : List (HloOp τ sig (Elt F))), op.fresh = ∅ := by
  intro _ h; (repeat (cases h with | head => rfl | tail _ h => ?_)); exact nomatch h
/-- An operation's arrays are among the unscoped ones. -/
theorem sub_UC {op : HloOp τ sig (Elt F)} (h : op.bufs ⊆ StableHlo.tcRefs τ sig) : op.bufs ⊆ UC := fun b hb =>
  Finset.mem_filter.mpr ⟨h hb, by rw [op.no_scoped b hb]; exact Bool.false_ne_true⟩
/-- The operations before the first region touch unscoped arrays only; -/
theorem opsA_sub : ∀ op ∈ (opsA : List (HloOp τ sig (Elt F))), op.bufs ⊆ UC := fun op h =>
  sub_UC (List.forall_iff_forall_mem.mp (show (opsA : List (HloOp τ sig (Elt F))).Forall fun op => op.bufs ⊆ StableHlo.tcRefs τ sig from
    ⟨StableHlo.nullary_bufs_sub .., StableHlo.nullary_bufs_sub ..⟩) op h)
/-- so do those between the regions; -/
theorem opsB_sub : ∀ op ∈ (opsB : List (HloOp τ sig (Elt F))), op.bufs ⊆ UC := fun op h =>
  sub_UC (List.forall_iff_forall_mem.mp (show (opsB : List (HloOp τ sig (Elt F))).Forall fun op => op.bufs ⊆ StableHlo.tcRefs τ sig from
    StableHlo.reshape_bufs_sub ..) op h)
/-- and those after the call. -/
theorem opsC_sub : ∀ op ∈ (opsC : List (HloOp τ sig (Elt F))), op.bufs ⊆ UC := fun op h =>
  sub_UC (List.forall_iff_forall_mem.mp (show (opsC : List (HloOp τ sig (Elt F))).Forall fun op => op.bufs ⊆ StableHlo.tcRefs τ sig from
    ⟨StableHlo.reshape_bufs_sub .., StableHlo.nullary_bufs_sub .., StableHlo.binary_bufs_sub .., StableHlo.reshape_bufs_sub .., StableHlo.nullary_bufs_sub ..,
     StableHlo.unary_bufs_sub .., StableHlo.binary_bufs_sub .., StableHlo.ternary_bufs_sub .., StableHlo.unary_bufs_sub .., StableHlo.binary_bufs_sub ..,
     StableHlo.reshape_bufs_sub .., StableHlo.binary_bufs_sub ..⟩) op h)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghosts (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd ghosts
  rw [main_parts, show (unscopedBufs d (fun b => m ((T d).loc b)) : sProp 𝕄) = held (tc d) UC (W0 m d) from unscoped_held d (W0 m d)]
  iintro ⟨#Hctx, Hst, ⟨Hb, Hh, Hts, -⟩, Hg0, Hg1⟩
  ihave #Hlev := ((K (F := F)).ctx_levAts κ) $$ Hctx
  ihave Hst' := (st_open d) $$ Hst
  icases Hst' with ⟨HO, Hback⟩
  iapply (wp_seq 𝒱 none Set.univ d UC _ opsA opsA_sub opsA_fresh (W0 m d)) $$ [Hb Hh]
  · isplitl [Hb]; · iexact Hb
    iexact Hh
  iintro ⟨Hb, Hh⟩
  rw [wp_bind]
  iapply (wp_call0 m d)
  isplitl [Hb]; · iexact Hb
  isplitl [Hh]; · iexact Hh
  isplitl [HO]; · iexact HO
  isplitr; · iexact Hlev
  isplitl [Hg0]; · iexact Hg0
  iintro ⟨Hb, Hh, HO⟩
  iapply (wp_seq 𝒱 none Set.univ d UC _ opsB opsB_sub opsB_fresh (W2 m d)) $$ [Hb Hh]
  · isplitl [Hb]; · iexact Hb
    iexact Hh
  iintro ⟨Hb, Hh⟩
  rw [wp_bind]
  iapply (wp_call1 m d)
  isplitl [Hb]; · iexact Hb
  isplitl [Hh]; · iexact Hh
  isplitl [HO]; · iexact HO
  isplitr; · iexact Hlev
  isplitl [Hg1]; · iexact Hg1
  iintro ⟨Hb, Hh, HO⟩
  ihave Hst := Hback $$ HO
  rw [wp_bind]
  iapply (wp_call2 m κ d)
  isplitr; · iexact Hctx
  isplitl [Hst]; · iexact Hst
  isplitl [Hh]; · iexact Hh
  iintro ⟨Hst, Hh⟩
  iapply (wp_seq 𝒱 none Set.univ d UC _ opsC opsC_sub opsC_fresh (W5 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

/-! ## The launch element -/

/-- The handshakes' rounds, the two regions' rounds, and no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The regions' ghost state on all devices: their cells' and their tokens. -/
theorem ghosts_eq : (bigSep Finset.univ fun d : Dev nD => ghosts (F := F) d : sProp 𝕄)
    = iprop((bigSep Finset.univ fun d : Dev nD => bigSep Finset.univ fun p : Fin 2 => Pipeline.cellsGhost (Pipeline.pin (pcfgs (F := F)) adm) EP p d)
        ∗ (bigSep Finset.univ fun d : Dev nD => bigSep Finset.univ fun p : Fin 2 => Pipeline.toksInit (Pipeline.pin (pcfgs (F := F)) adm) EP p d)) := by
  rw [← bigSep_sep']
  refine bigSep_congr fun d _ => ?_
  rw [← bigSep_sep', bigSep_fin_two]; rfl

/-- Owning the regions' part of the ghost state, by either spelling of the embedding. -/
theorem own_EP (x : UP) : (BI.own (((Emb.inl : Emb UP (UP × Counters)).trans (embR : Emb (UP × Counters) 𝕄)) x) : sProp 𝕄) ⊢ BI.own (EP x) := by
  unfold EP; exact .rfl

/-- The launch element gives the handshakes' rounds and every device's ghost state for the regions. -/
theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) (MT nD τ sig (HIx 1) (Elt F) ℕ UU ℕ)) _ _) $$ HR
  icases H2 with ⟨HP, -⟩
  ihave HP := (own_EP _) $$ HP
  imod (Pipeline.fund_ghost (Pipeline.pin (pcfgs (F := F)) adm) EP cellOf_inj) $$ HP with ⟨Hg, Ht⟩
  imodintro
  isplitl [HH]; · iexact HH
  isplitl [Hg Ht]
  · rw [ghosts_eq]
    isplitl [Hg]; · iexact Hg
    iexact Ht
  unfold P; dsimp only
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro

/-! ## The run -/

/-- What the final state holds on device `d`: every array at its last valuation. -/
def fq (d : Dev nD) (s' : Phys nD τ sig (Elt F)) : Prop := ∀ b ∈ UC, s'.mem.mem (d, b) = W6 m d b

/-- If every array is held at its last contents, the final state holds them. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) UC) $$ [HSI H]
  · isplitl [HSI]; · iexact HSI
    iexact H
  ipureintro
  exact h

/-- Every weakly fair execution ends, with every array of @main at its last valuation and every semaphore at zero. -/
theorem run_main [∀ e, Nonempty (Elt F e)] (hpre : InRange m) :
    θ_run (Cert.KernelIdeal.defs (F := F)) (Cert.KernelIdeal.threads (F := F)) ⟨m, fun _ => 0, ρ⟩
      (fun r => (∀ d, ∀ b ∈ UC, r.2.mem (d, b) = W6 m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (ghosts (F := F)) (FIN m) (u₀ (F := F)) (sep_elim_left.trans (hu₀ m)) (hmain m ρ) (fq m) (hfin m)
    (fun r => (∀ d, ∀ b ∈ UC, r.2.mem (d, b) = W6 m d b) ∧ r.2.sem = fun _ => 0) (fun _ h hz => ⟨h, hz⟩)

end Cert.Proof.Ising

end
-- ==== Proof.Frames.lean ====
/-
  What the run says of the arguments and of the result, what the precondition gives, and the three programs' frames.
-/
module

public import proofs.«01_k».proof.Defs
public import proofs.«01_k».proof.Proof.Whole
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll

@[expose] public section

noncomputable section

namespace Cert.Proof.Ising

open Cert.KernelIdeal Cert.KernelIdeal.Gen
open Idealize.ShloMosaic hiding T
open Idealize.ShloMosaic.SparseCore (S V T)
open Idealize.ShloMosaic.SparseCore.Cfg (HIx Pay)
open Idealize.SL Idealize.SL.Sem
open Idealize.ShloMosaic.Tactic Idealize.ShloMosaic.TcCoe
open Idealize.ShloMosaic.StableHlo (held after seq)

variable {F : FTy → Type} [FloatOps F]

variable (m : (ℓ : Loc nD τ sig) → Buf (Elt F) ℓ) (ρ : Dev nD → PrngReg)

/-! ## The last valuation at the arguments and at the result -/

/-- At the end the words of the spins are as launched. -/
theorem W6_arg0 (d : Dev nD) : W6 m d (rf main_arg0) = m ((tc d).loc main_arg0) := by
  unfold W6; after_results_simp
  exact (W5_of m d _ (by decide)).trans ((W4_of m d main_arg0 (by decide)).trans (W3_arg0 m d))
/-- At the end the fields are as launched. -/
theorem W6_arg1 (d : Dev nD) : W6 m d (rf main_arg1) = m ((tc d).loc main_arg1) := by
  unfold W6; after_results_simp
  refine (W5_of m d _ (by decide)).trans ((W4_of m d main_arg1 (by decide)).trans ?_)
  unfold W3; after_results_simp; rw [W2_of m d main_arg1 (by decide)]; unfold W1; after_results_simp; rfl
/-- At the end the couplings are as launched. -/
theorem W6_arg2 (d : Dev nD) : W6 m d (rf main_arg2) = m ((tc d).loc main_arg2) := by
  unfold W6; after_results_simp
  exact (W5_of m d _ (by decide)).trans (W4_arg2 m d)
/-- At the end the first ends are as launched. -/
theorem W6_arg3 (d : Dev nD) : W6 m d (rf main_arg3) = m ((tc d).loc main_arg3) := by
  unfold W6; after_results_simp
  exact (W5_of m d _ (by decide)).trans (W4_arg3 m d)
/-- At the end the second ends are as launched. -/
theorem W6_arg4 (d : Dev nD) : W6 m d (rf main_arg4) = m ((tc d).loc main_arg4) := by
  unfold W6; after_results_simp
  exact (W5_of m d _ (by decide)).trans (W4_arg4 m d)

/-- The row-order table: the row of the result each of the sixteen row sums is read at. -/
def order : IVec S16 32 := fun i => lit0 (S16.rowMajor i)

/-- The result: the tiles' row sums, added over the chunks of edges and the lanes, put in order, plus the linear terms. -/
def result (p : Vec F S32x4x16 .f32) (l : Vec F S16x1 .f32) : Vec F S16 .f32 :=
  addf (Host.gather gather_S16_S16x1_S16_n_0_n_n_0_1_1
      (shapeCast S16 (Host.reduceAdd (shapeCast S4x8x4x16 p shapeCasts_S32x4x16_S4x8x4x16) (constant S_ .f32 0x00000000#32) reducesTo_S4x8x4x16_S4x4_d1_3 h_S_) shapeCasts_S4x4_S16)
      (broadcastInDim S16x1 ![0] bcast_S16_S16x1_0
        (select (constantI S16 1 0#1) (addi order (broadcastInDim S16 ![] bcast_S_S16 (constantI S_ 32 16#32))) order)))
    (shapeCast S16 l shapeCasts_S16x1_S16)

/-- At the end the result's array holds `result` of the tiles' sums and the linear terms. -/
theorem W6_v13 (d : Dev nD) : W6 m d (rf main_v13) = result (parts m d) (linear m d) := by
  have h1 : W5 m d (rf main_v3) = parts m d := Function.update_self _ _ _
  have h2 : W5 m d (rf main_v2) = linear m d := (W5_of m d _ (by decide)).trans (W4_v2 m d)
  have h3 : W5 m d (rf main_c) = order := by
    refine (W5_of m d _ (by decide)).trans ((W4_of m d main_c (by decide)).trans ?_)
    unfold W3; after_results_simp; rw [W2_of m d main_c (by decide)]; unfold W1; after_results_simp; rfl
  have h4 : W5 m d (rf main_c_0) = constantI S16 1 0#1 := by
    refine (W5_of m d _ (by decide)).trans ((W4_of m d main_c_0 (by decide)).trans ?_)
    unfold W3; after_results_simp; rw [W2_of m d main_c_0 (by decide)]; unfold W1; after_results_simp
  unfold W6; after_results_simp
  rw [h1, h2, h3, h4]; rfl

/-- Every weakly fair execution ends with the result computed, the arguments as they were and every semaphore at zero. -/
theorem run_args [∀ e, Nonempty (Elt F e)] (hpre : InRange m) :
    θ_run (Cert.KernelIdeal.defs (F := F)) (Cert.KernelIdeal.threads (F := F)) ⟨m, fun _ => 0, ρ⟩
      (fun r => (∀ c : Dev nD, r.2.mem ((tc c).loc main_v13) = result (parts m c) (linear m c)
        ∧ r.2.mem ((tc c).loc main_arg0) = m ((tc c).loc main_arg0)
        ∧ r.2.mem ((tc c).loc main_arg1) = m ((tc c).loc main_arg1)
        ∧ r.2.mem ((tc c).loc main_arg2) = m ((tc c).loc main_arg2)
        ∧ r.2.mem ((tc c).loc main_arg3) = m ((tc c).loc main_arg3)
        ∧ r.2.mem ((tc c).loc main_arg4) = m ((tc c).loc main_arg4)) ∧ r.2.sem = fun _ => 0) :=
  (θ_run Cert.KernelIdeal.defs _ _).mono (fun r h => ⟨fun c =>
    ⟨(h.1 c (rf main_v13) (by decide)).trans (W6_v13 m c), (h.1 c (rf main_arg0) (by decide)).trans (W6_arg0 m c), (h.1 c (rf main_arg1) (by decide)).trans (W6_arg1 m c),
     (h.1 c (rf main_arg2) (by decide)).trans (W6_arg2 m c), (h.1 c (rf main_arg3) (by decide)).trans (W6_arg3 m c), (h.1 c (rf main_arg4) (by decide)).trans (W6_arg4 m c)⟩, h.2⟩)
    (run_main m ρ hpre)

/-! ## The precondition -/

/-- A conjunction of bits is one only if both are. -/
theorem andi_one {a b : BitVec 1} (h : IntOp.andi a b = 1#1) : a = 1#1 ∧ b = 1#1 := by
  revert a b; decide

/-- A word that is at least 0 and below 50000 as a signed number is below 50000. -/
theorem word_lt {v : BitVec 32} (h0 : IntOp.cmpi .sge v 0#32 = 1#1) (h1 : IntOp.cmpi .slt v 50000#32 = 1#1) : v.toNat < 50000 := by
  have a := IntOp.cmpi_sge.1 h0
  have b := IntOp.cmpi_slt.1 h1
  simp only [BitVec.toInt_eq_toNat_cond, BitVec.toNat_ofNat, Nat.reducePow, Nat.reduceMod] at a b
  have := v.isLt
  split at b <;> omega

/-- The precondition says that both ends of every edge, read unsigned, are below 50000. -/
theorem in_range {G : FTy → Type} [FloatOps G] (u : IVec S16x50000 32) (h : FVec G S50000 .f32) (J : FVec G S1600000 .f32) (ei ej : IVec S1600000 32)
    (e : Cert.Pre_in_range.fn (F := G) u h J ei ej = fun _ => 1#1) : (∀ x, (ei x).toNat < 50000) ∧ ∀ x, (ej x).toNat < 50000 := by
  have key : ∀ x, (ei x).toNat < 50000 ∧ (ej x).toNat < 50000 := by
    intro x
    have e1 := congrFun e (Shape.Idx.first (by decide))
    unfold Cert.Pre_in_range.fn at e1
    have e2 := Host.reduce_andi_all _ _ _ _ _ e1 x
    obtain ⟨e3, h4⟩ := andi_one e2
    obtain ⟨e5, h3⟩ := andi_one e3
    obtain ⟨h1, h2⟩ := andi_one e5
    exact ⟨word_lt h1 h2, word_lt h3 h4⟩
  exact ⟨fun x => (key x).1, fun x => (key x).2⟩

/-! ## The frames -/

/-- The two printings of the program have the same bodies behind their labels. -/
theorem defs₀_same : Cert.Kernel.defs₀ (F := Bits) = Cert.KernelIdeal.defs₀ (F := Bits) := by
  funext p ℓ a
  match p, ℓ, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

/-- So they have the same label table. -/
theorem defs_same : Cert.Kernel.defs (F := Bits) = Cert.KernelIdeal.defs (F := Bits) :=
  congrArg (fun D => (Cert.KernelIdeal.sc (F := Bits)).defs (Pipeline.defs (Cert.KernelIdeal.pcfgs (F := Bits)) D)) defs₀_same

/-- The program as printed runs, its arguments unchanged, every semaphore at zero at the end. -/
theorem frame_kernel : Cert.quiescent_Kernel := by
  intro m ρ hpre
  rw [defs_same]
  exact (θ_run (Cert.KernelIdeal.defs (F := Bits)) (Cert.KernelIdeal.threads (F := Bits)) ⟨m, fun _ => 0, ρ⟩).mono (fun _ h => ⟨fun c => (h.1 c).2, h.2⟩)
    (run_args (F := Bits) m ρ fun d => in_range _ _ _ _ _ (hpre d))

/-- The same of its reading at the extended reals. -/
theorem frame_ideal : Cert.quiescent_KernelIdeal := fun m ρ hpre =>
  (θ_run Cert.KernelIdeal.defs _ _).mono (fun _ h => ⟨fun c => (h.1 c).2, h.2⟩)
    (run_args (F := Ideal) m ρ fun d => in_range _ _ _ _ _ (hpre d))

/-- The reference runs, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under the precondition, which it doesn't need. -/
theorem frame_reference_pre : Cert.quiescent_ReferenceIdeal_pre_in_range := fun m ρ _ => frame_reference m ρ trivial

end Cert.Proof.Ising

end
-- ==== Proof.Words.lean ====
/-
  The words: rounding to the upper half, one word holding two rounded ones, and each read back.
-/
module

public import Idealize.ShloMosaic.Lib.Pointwise

@[expose] public section

namespace Cert.Proof.Ising

/-- A word rounded to its upper half, ties to even, as the packing writes it. -/
def rounded (v : BitVec 32) : BitVec 32 := (v + 32767#32 + ((v >>> 16) &&& 1#32)) &&& 4294901760#32

/-- Two rounded words in one. -/
def twoIn (a b : BitVec 32) : BitVec 32 := rounded a ||| (rounded b >>> 16)

/-- The mask keeps the sixteen upper bits. -/
theorem mask_bit (i : ℕ) (h : i < 32) : (4294901760#32).getLsbD i = decide (16 ≤ i) := by
  revert i; decide

/-- Masking is shifting down and up again. -/
theorem mask_eq (v : BitVec 32) : v &&& 4294901760#32 = (v >>> 16) <<< 16 := by
  apply BitVec.eq_of_getLsbD_eq; intro i hi
  rw [BitVec.getLsbD_and, mask_bit i hi, BitVec.getLsbD_shiftLeft, BitVec.getLsbD_ushiftRight]
  by_cases h : 16 ≤ i
  · simp [h, hi, show ¬ i < 16 by omega, show 16 + (i - 16) = i by omega]
  · simp [h, show i < 16 by omega]

/-- The upper half of the word of two is the first. -/
theorem twoIn_high (a b : BitVec 32) : twoIn a b &&& 4294901760#32 = rounded a := by
  unfold twoIn rounded
  generalize a + 32767#32 + ((a >>> 16) &&& 1#32) = x
  generalize b + 32767#32 + ((b >>> 16) &&& 1#32) = y
  apply BitVec.eq_of_getLsbD_eq; intro i hi
  simp only [BitVec.getLsbD_and, BitVec.getLsbD_or, BitVec.getLsbD_ushiftRight, mask_bit i hi]
  by_cases h : 16 ≤ i
  · simp [h, BitVec.getLsbD_of_ge y (16 + i) (by omega)]
  · simp [h]

/-- The lower half of the word of two, moved up, is the second. -/
theorem twoIn_low (a b : BitVec 32) : twoIn a b <<< 16 = rounded b := by
  unfold twoIn rounded
  generalize a + 32767#32 + ((a >>> 16) &&& 1#32) = x
  generalize b + 32767#32 + ((b >>> 16) &&& 1#32) = y
  apply BitVec.eq_of_getLsbD_eq; intro i hi
  simp only [BitVec.getLsbD_and, BitVec.getLsbD_or, BitVec.getLsbD_shiftLeft, BitVec.getLsbD_ushiftRight, mask_bit i hi]
  by_cases h : 16 ≤ i
  · rw [show 16 + (i - 16) = i by omega, mask_bit i hi, mask_bit (i - 16) (by omega)]
    simp [h, hi, show ¬ i < 16 by omega, show ¬ 16 ≤ i - 16 by omega]
  · simp [h, show i < 16 by omega]

/-- What the lower half adds to the upper one. -/
def up (v : BitVec 32) : BitVec 32 :=
  if (v &&& 65535#32).toNat > 32768 ∨ ((v &&& 65535#32).toNat = 32768 ∧ ((v >>> 16) &&& 1#32).toNat = 1) then 1#32 else 0#32

/-- The lower half of a word is the remainder by 65536. -/
theorem low_toNat (v : BitVec 32) : (v &&& 65535#32).toNat = v.toNat % 65536 := by
  rw [BitVec.toNat_and]; exact Nat.and_two_pow_sub_one_eq_mod v.toNat 16
/-- Its last bit is the remainder by 2. -/
theorem odd_toNat (v : BitVec 32) : (v &&& 1#32).toNat = v.toNat % 2 := by
  rw [BitVec.toNat_and]; exact Nat.and_two_pow_sub_one_eq_mod v.toNat 1
/-- Its upper half is the quotient by 65536. -/
theorem top_toNat (v : BitVec 32) : (v >>> 16).toNat = v.toNat / 65536 := by
  rw [BitVec.toNat_ushiftRight, Nat.shiftRight_eq_div_pow]

/-- The two roundings over numbers: upper half `h`, lower half `l`. -/
theorem round_nat (h l u : ℕ) (hh : h < 65536) (hl : l < 65536)
    (hu : (u = 1 ∧ (l > 32768 ∨ l = 32768 ∧ h % 2 = 1)) ∨ (u = 0 ∧ ¬ (l > 32768 ∨ l = 32768 ∧ h % 2 = 1))) :
    ((65536 * h + l + 32767) % 4294967296 + h % 2) % 4294967296 / 65536 * 65536 % 4294967296 = (h + u) % 4294967296 * 65536 % 4294967296 := by
  obtain ⟨l', hl', e⟩ : ∃ l' < 65536, 65536 * h + l + 32767 + h % 2 = 65536 * (h + u) + l' :=
    ⟨65536 * h + l + 32767 + h % 2 - 65536 * (h + u), by omega, by omega⟩
  rw [Nat.mod_add_mod, e]
  by_cases c : h + u < 65536
  · clear e hu
    generalize h + u = t at c
    rw [Nat.mod_eq_of_lt (show 65536 * t + l' < 4294967296 by omega), show (65536 * t + l') / 65536 = t by omega,
      Nat.mod_eq_of_lt (show t < 4294967296 by omega)]
  · obtain rfl : u = 65536 - h := by omega
    have : h + (65536 - h) = 65536 := by omega
    rw [this]; omega

/-- Rounding as the packing writes it is the upper half and what the lower adds, moved up. -/
theorem rounded_eq (v : BitVec 32) : rounded v = ((v >>> 16) + up v) <<< 16 := by
  have hv := v.isLt
  unfold rounded up
  rw [mask_eq]
  apply BitVec.eq_of_toNat_eq
  rw [low_toNat, odd_toNat, top_toNat]
  have hn : v.toNat = 65536 * (v.toNat / 65536) + v.toNat % 65536 := by omega
  have key := fun u hu => round_nat (v.toNat / 65536) (v.toNat % 65536) u (by omega) (by omega) hu
  rw [← hn] at key
  split <;> rename_i h <;>
    simp only [BitVec.toNat_shiftLeft, top_toNat, BitVec.toNat_add, odd_toNat, BitVec.toNat_ofNat, Nat.shiftLeft_eq]
  · exact key 1 (.inl ⟨rfl, h⟩)
  · exact key 0 (.inr ⟨rfl, h⟩)

end Cert.Proof.Ising
-- ==== Proof.Sums.lean ====
/-
  What a tile's accumulators hold over the extended reals: sums over the edges the tile reads.
-/
module

public import proofs.«01_k».proof.Proof.Frames
public import proofs.«01_k».proof.Proof.Words
public import Idealize.ShloMosaic.Lib.Pointwise

@[expose] public section

noncomputable section

namespace Cert.Proof.Ising

open Cert.KernelIdeal Cert.KernelIdeal.Gen
open Idealize.ShloMosaic hiding T

/-! ## The packed spins read -/

/-- Row `r`, spin `k` of the sixteen rows. -/
def ixS (r k : ℕ) : S16x50000.Idx := fun a => ⟨(![r, k] : Fin 2 → ℕ) a % S16x50000.size a, Nat.mod_lt _ (by revert a; decide)⟩

/-- The spin at row `r`, number `k`, as the gathers read it: its word rounded, as a number. -/
def spin (u : Vec Ideal S16x50000 .i32) (r k : ℕ) : EReal := Ideal.ofBits .f32 (rounded (u (ixS r k)))

/-- The index of row `r`, number `k` of the packed spins. -/
theorem ixX_eq (r k : ℕ) (hr : r < 8) (hk : k < 50000) : ixX r k = ix2 ⟨r, hr⟩ ⟨k, hk⟩ := by
  funext a; apply Fin.ext
  match a with
  | ⟨0, _⟩ => exact Nat.mod_eq_of_lt hr
  | ⟨1, _⟩ => exact Nat.mod_eq_of_lt hk
/-- The index of row `r`, number `k` of the spins. -/
theorem ixS_eq (r k : ℕ) (hr : r < 16) (hk : k < 50000) : ixS r k = ix2 ⟨r, hr⟩ ⟨k, hk⟩ := by
  funext a; apply Fin.ext
  match a with
  | ⟨0, _⟩ => exact Nat.mod_eq_of_lt hr
  | ⟨1, _⟩ => exact Nat.mod_eq_of_lt hk

/-- A shift by sixteen is in range on either unit. -/
theorem shl_in (u : ArithUnit) (v : BitVec 32) : IntOp.shli u v 16#32 = v <<< 16 := rfl
/-- Neither unit's shift to the right by sixteen overflows. -/
theorem shr_in (u : ArithUnit) (v : BitVec 32) : IntOp.shrui u v 16#32 = v >>> 16 := rfl

/-- A packed word holds the rounded words of rows `r` and `r + 8`. -/
theorem packed_word (u : Vec Ideal S16x50000 .i32) (r k : ℕ) (hr : r < 8) (hk : k < 50000) :
    k0_pay1 (F := Ideal) u (ixX r k) = twoIn (u (ixS r k)) (u (ixS (r + 8) k)) := by
  rw [ixX_eq r k hr hk, ixS_eq r k (by omega) hk, ixS_eq (r + 8) k (by omega) hk]
  pointwise [k0_pay1]
  rw [shr_in, shr_in, shr_in]
  have e : (⟨8 + r, by omega⟩ : Fin 16) = ⟨r + 8, by omega⟩ := Fin.ext (Nat.add_comm 8 r)
  rw [e]
  rfl

/-! ## One group -/

/-- The number accumulator `q` multiplies by at spin `b`, off the tile's two packed rows. -/
def half (r0 r1 : Vec Ideal S50000 .i32) (q : ℕ) (b : BitVec 32) : EReal :=
  if q = 0 then Ideal.ofBits .f32 (r0 (ixN b.toNat) &&& 4294901760#32)
  else if q = 1 then Ideal.ofBits .f32 (r0 (ixN b.toNat) <<< 16)
  else if q = 2 then Ideal.ofBits .f32 (r1 (ixN b.toNat) &&& 4294901760#32)
  else Ideal.ofBits .f32 (r1 (ixN b.toNat) <<< 16)

/-- The first accumulator gains the product of the two upper halves of the first packed row and the coupling. -/
theorem pay3_at (a w : FVec Ideal S16 .f32) (gi gj : Vec Ideal S16 .i32) (l : S16.Idx) :
    k2_pay3 a w gi gj l = (a l + Ideal.ofBits .f32 (gi l &&& 4294901760#32) * Ideal.ofBits .f32 (gj l &&& 4294901760#32) * w l : EReal) := by
  pointwise [k2_pay3]; rfl
/-- The second gains the product of the two lower halves of the first packed row and the coupling. -/
theorem pay4_at (a w : FVec Ideal S16 .f32) (gi gj : Vec Ideal S16 .i32) (l : S16.Idx) :
    k2_pay4 a w gi gj l = (a l + Ideal.ofBits .f32 (gi l <<< 16) * Ideal.ofBits .f32 (gj l <<< 16) * w l : EReal) := by
  pointwise [k2_pay4]; rfl
/-- The third gains the product of the two upper halves of the second packed row and the coupling. -/
theorem pay5_at (a w : FVec Ideal S16 .f32) (gi gj : Vec Ideal S16 .i32) (l : S16.Idx) :
    k2_pay5 a w gi gj l = (a l + Ideal.ofBits .f32 (gi l &&& 4294901760#32) * Ideal.ofBits .f32 (gj l &&& 4294901760#32) * w l : EReal) := by
  pointwise [k2_pay5]; rfl
/-- The fourth gains the product of the two lower halves of the second packed row and the coupling. -/
theorem pay23_at (a w : FVec Ideal S16 .f32) (gi gj : Vec Ideal S16 .i32) (l : S16.Idx) :
    k2_pay23 a w (k2_pay6 (F := Ideal) gi) (k2_pay7 (F := Ideal) gj) l
      = (a l + Ideal.ofBits .f32 (gi l <<< 16) * Ideal.ofBits .f32 (gj l <<< 16) * w l : EReal) := by
  pointwise [k2_pay23, k2_pay6, k2_pay7]; rfl

/-- One group adds to lane `l` of accumulator `q` the product of the two ends' numbers and the coupling. -/
theorem pick_stepv (r0 r1 : Vec Ideal S50000 .i32) (vi vj : Vec Ideal S16 .i32) (w : Vec Ideal S16 .f32) (a : Acc Ideal) (q : ℕ) (l : S16.Idx) :
    pick (stepv r0 r1 vi vj w a) q l = (pick a q l + half r0 r1 q (vi l) * half r0 r1 q (vj l) * w l : EReal) := by
  unfold pick half stepv
  split
  · exact pay3_at _ _ _ _ _
  split
  · exact pay4_at _ _ _ _ _
  split
  · exact pay5_at _ _ _ _ _
  · exact pay23_at _ _ _ _ _

/-! ## A tile's accumulators -/

/-- What edge `e` adds to accumulator `q`. -/
def edgeAdd (r0 r1 : Vec Ideal S50000 .i32) (EI EJ : Vec Ideal S1600000 .i32) (J : Vec Ideal S1600000 .f32) (q e : ℕ) : EReal :=
  half r0 r1 q (EI (ixE e)) * half r0 r1 q (EJ (ixE e)) * J (ixE e)

/-- Lane `l` of group `k` of the chunk from `b` is element `b + (16 k + l)` of the array. -/
theorem grp_chunk {α : Type} (v : S1600000.Idx → α) (b k l : ℕ) (hk : k < 125) (hl : l < 16) :
    grp (chunk v b) (16 * k) (ixL l) = v (ixE (b + (16 * k + l))) := by
  show v (ixE (b + (16 * k + l % 16) % 2000)) = _
  rw [Nat.mod_eq_of_lt hl, Nat.mod_eq_of_lt (by omega)]

/-- After `n` groups of a chunk: the sum of what those groups' edges add. -/
theorem pick_accG (r0 r1 : Vec Ideal S50000 .i32) (EI EJ : Vec Ideal S1600000 .i32) (J : Vec Ideal S1600000 .f32) (b q l : ℕ) (hl : l < 16)
    (a : Acc Ideal) (n : ℕ) (hn : n ≤ 125) :
    pick (accG r0 r1 (chunk EI b) (chunk EJ b) (chunk J b) a n) q (ixL l)
      = (pick a q (ixL l) + ∑ k ∈ Finset.range n, edgeAdd r0 r1 EI EJ J q (b + (16 * k + l)) : EReal) := by
  induction n with
  | zero => simp [accG]
  | succ n ih =>
    rw [accG, pick_stepv, ih (by omega), Finset.sum_range_succ, grp_chunk EI b n l (by omega) hl, grp_chunk EJ b n l (by omega) hl,
      grp_chunk J b n l (by omega) hl, add_assoc]
    rfl

/-- The accumulators start at zero. -/
theorem pick_acc0 (q : ℕ) (l : S16.Idx) : pick (acc0 (F := Ideal)) q l = (0 : EReal) := by
  have h : k2_pay1 (F := Ideal) l = (0 : EReal) := by pointwise [k2_pay1]
  unfold pick acc0
  split
  · exact h
  split
  · exact h
  split <;> exact h

/-- After `n` chunks: the sum of what those chunks' edges add. -/
theorem pick_accC (i : grid2.Coords) (r0 r1 : Vec Ideal S50000 .i32) (EI EJ : Vec Ideal S1600000 .i32) (J : Vec Ideal S1600000 .f32)
    (q l : ℕ) (hl : l < 16) (n : ℕ) :
    pick (accC i r0 r1 EI EJ J n) q (ixL l)
      = (∑ c ∈ Finset.range n, ∑ k ∈ Finset.range 125, edgeAdd r0 r1 EI EJ J q (cbase i c + (16 * k + l)) : EReal) := by
  induction n with
  | zero => rw [accC, pick_acc0]; rfl
  | succ n ih => rw [accC, pick_accG _ _ _ _ _ _ _ _ hl _ _ le_rfl, ih, Finset.sum_range_succ (fun c => ∑ k ∈ Finset.range 125, edgeAdd r0 r1 EI EJ J q (cbase i c + (16 * k + l))) n]

/-! ## The rows a tile's accumulators are for -/

/-- The row accumulator `q` of a tile whose first packed row is `r` is for. -/
def rowFor (r q : ℕ) : ℕ := if q = 0 then r else if q = 1 then r + 8 else if q = 2 then r + 1 else r + 9

/-- What edge `e` adds to row `r` of the result. -/
def edgeTerm (u : Vec Ideal S16x50000 .i32) (EI EJ : Vec Ideal S1600000 .i32) (J : Vec Ideal S1600000 .f32) (r e : ℕ) : EReal :=
  spin u r (EI (ixE e)).toNat * spin u r (EJ (ixE e)).toNat * J (ixE e)

/-- The spin of number `k`, taken modulo the row's length or not, is the same place of a packed row. -/
theorem ixX_mod (r k : ℕ) : ixX r (ixN k 0).val = ixX r k := by
  funext a; apply Fin.ext
  match a with
  | ⟨0, _⟩ => rfl
  | ⟨1, _⟩ => exact Nat.mod_mod k 50000

/-- The half that accumulator `q` reads at spin `b` is the rounded spin of the row that `q` stands for. -/
theorem half_packed (u : Vec Ideal S16x50000 .i32) (r q : ℕ) (hr : r + 1 < 8) (b : BitVec 32) (hb : b.toNat < 50000) :
    half (rowOf (k0_pay1 (F := Ideal) u) r) (rowOf (k0_pay1 (F := Ideal) u) (r + 1)) q b = spin u (rowFor r q) b.toNat := by
  unfold half rowFor rowOf spin
  rw [ixX_mod, ixX_mod, packed_word u r _ (by omega) hb, packed_word u (r + 1) _ hr hb, twoIn_high, twoIn_high, twoIn_low, twoIn_low]
  split
  · rfl
  split
  · rfl
  split <;> rfl

/-- With the ends in range an edge adds to accumulator `q` what it adds to that accumulator's row. -/
theorem edgeAdd_packed (u : Vec Ideal S16x50000 .i32) (EI EJ : Vec Ideal S1600000 .i32) (J : Vec Ideal S1600000 .f32)
    (hi : ∀ x, (EI x : BitVec 32).toNat < 50000) (hj : ∀ x, (EJ x : BitVec 32).toNat < 50000) (r q e : ℕ) (hr : r + 1 < 8) :
    edgeAdd (rowOf (k0_pay1 (F := Ideal) u) r) (rowOf (k0_pay1 (F := Ideal) u) (r + 1)) EI EJ J q e = edgeTerm u EI EJ J (rowFor r q) e := by
  unfold edgeAdd edgeTerm
  rw [half_packed u r q hr _ (hi _), half_packed u r q hr _ (hj _)]

/-! ## The edges counted tile by tile -/

/-- A sum over `a * b` numbers is one over `a` blocks of `b`. -/
theorem sum_blocks {M : Type*} [AddCommMonoid M] (f : ℕ → M) (a b : ℕ) :
    ∑ e ∈ Finset.range (a * b), f e = ∑ i ∈ Finset.range a, ∑ j ∈ Finset.range b, f (b * i + j) := by
  induction a with
  | zero => simp
  | succ a ih => rw [Nat.succ_mul, Finset.sum_range_add, ih, Finset.sum_range_succ, Nat.mul_comm a b]

/-- Eight runs of a hundred chunks of 125 groups of sixteen are all the edges. -/
theorem sum_edges {M : Type*} [AddCommMonoid M] (f : ℕ → M) :
    ∑ q ∈ Finset.range 8, ∑ l ∈ Finset.range 16, ∑ c ∈ Finset.range 100, ∑ k ∈ Finset.range 125, f (200000 * q + 2000 * c + (16 * k + l))
      = ∑ e ∈ Finset.range 1600000, f e := by
  rw [show 1600000 = 8 * 200000 from rfl, sum_blocks f 8 200000]
  refine Finset.sum_congr rfl fun q _ => ?_
  rw [show 200000 = 100 * 2000 from rfl, sum_blocks (fun j => f (100 * 2000 * q + j)) 100 2000, Finset.sum_comm]
  refine Finset.sum_congr rfl fun c _ => ?_
  rw [show 2000 = 125 * 16 from rfl, sum_blocks (fun j => f (100 * (125 * 16) * q + (125 * 16 * c + j))) 125 16, Finset.sum_comm]
  refine Finset.sum_congr rfl fun k _ => Finset.sum_congr rfl fun l _ => congrArg f ?_
  omega

/-- The tile of block `8 v + q` starts its chunks at edge `200000 q`. -/
theorem cbase_tile (v q c : ℕ) (hv : v < 4) (hq : q < 8) : cbase (tileOf (8 * v + q)) c = 200000 * q + 2000 * c := by
  have h0 : (tileOf (8 * v + q) 0).val = (8 * v + q) % 2 := rfl
  have h1 : (tileOf (8 * v + q) 1).val = (4 * (((8 * v + q) % 8) / 2) + (8 * v + q) / 8) % 16 := rfl
  unfold cbase
  rw [h0, h1]; omega
/-- The tile of block `8 v + q` reads the packed rows from `2 v`. -/
theorem rowNo_tile (v q : ℕ) (hv : v < 4) (hq : q < 8) : rowNo (tileOf (8 * v + q)) = 2 * v := by
  have h1 : (tileOf (8 * v + q) 1).val = (4 * (((8 * v + q) % 8) / 2) + (8 * v + q) / 8) % 16 := rfl
  unfold rowNo
  rw [h1]; omega

/-- The blocks of row pair `v`, summed over their tiles and lanes at accumulator `q`: what all the edges add to that accumulator's row. -/
theorem sum_parts (u : Vec Ideal S16x50000 .i32) (EI EJ : Vec Ideal S1600000 .i32) (J : Vec Ideal S1600000 .f32)
    (hi : ∀ x, (EI x : BitVec 32).toNat < 50000) (hj : ∀ x, (EJ x : BitVec 32).toNat < 50000) (v s : ℕ) (hv : v < 4) :
    (∑ q ∈ Finset.range 8, ∑ l ∈ Finset.range 16,
        pick (accOf (k0_pay1 (F := Ideal) u) EI EJ J (tileOf (8 * v + q))) s (ixL l) : EReal)
      = ∑ e ∈ Finset.range 1600000, edgeTerm u EI EJ J (rowFor (2 * v) s) e := by
  rw [← sum_edges]
  refine Finset.sum_congr rfl fun q hq => Finset.sum_congr rfl fun l hl => ?_
  have hq' := Finset.mem_range.1 hq
  have hl' := Finset.mem_range.1 hl
  unfold accOf
  rw [rowNo_tile v q hv hq', pick_accC _ _ _ _ _ _ _ _ hl']
  refine Finset.sum_congr rfl fun c _ => Finset.sum_congr rfl fun k _ => ?_
  rw [cbase_tile v q c hv hq', edgeAdd_packed u EI EJ J hi hj _ _ _ (by omega)]

end Cert.Proof.Ising

end
-- ==== Proof.Rows.lean ====
/-
  The kernel's result read at a row: all the edges' terms and the linear sum.
-/
module

public import proofs.«01_k».proof.Proof.Sums
public import Idealize.ShloMosaic.Lib.StableHlo.Predicate

@[expose] public section

noncomputable section

namespace Cert.Proof.Ising

open Cert.KernelIdeal Cert.KernelIdeal.Gen
open Idealize.ShloMosaic hiding T

/-! ## The kernel's side -/

/-- The host's sum over the blocks of a row pair and their lanes. -/
theorem reduce_at (x : FVec Ideal S4x8x4x16 .f32) (v s : Fin 4) :
    Host.reduceAdd x (constant S_ .f32 0x00000000#32) reducesTo_S4x8x4x16_S4x4_d1_3 h_S_ (ix2 v s)
      = (∑ q : Fin 8, ∑ l : Fin 16, x (ix4 v q s l) : EReal) := by
  rw [Host.reduceAdd_apply, Ideal.hostReduceAdd_def]
  unfold Ideal.hostReduceAdd
  rw [Finset.sum_filter_eq_sum_of_fiber _ (fun k : Fin 8 × Fin 16 => ix4 v k.1 s k.2)
    (fun a b e => Prod.ext (congrFun e 1) (congrFun e 3)) ?_ x, Fintype.sum_prod_type]
  · have : constant (F := Ideal) S_ .f32 0x00000000#32 (Shape.Idx.first h_S_) = (0 : EReal) := by pointwise
    rw [this, zero_add]
  · intro i
    constructor
    · intro e
      refine ⟨(i 1, i 3), ?_⟩
      funext a
      match a with
      | ⟨0, _⟩ => exact Fin.ext (congrArg Fin.val (congrFun e 0)).symm
      | ⟨1, _⟩ => rfl
      | ⟨2, _⟩ => exact Fin.ext (congrArg Fin.val (congrFun e 1)).symm
      | ⟨3, _⟩ => rfl
    · rintro ⟨k, rfl⟩
      funext a; match a with
      | ⟨0, _⟩ => rfl
      | ⟨1, _⟩ => rfl

/-- The blocks as four by eight. -/
theorem blocks_at (p : Vec Ideal S32x4x16 .f32) (v : Fin 4) (q : Fin 8) (s : Fin 4) (l : Fin 16) :
    shapeCast S4x8x4x16 p shapeCasts_S32x4x16_S4x8x4x16 (ix4 v q s l) = p (ix3 ⟨8 * v.val + q.val, by omega⟩ s l) := by
  pointwise
  exact congrArg (fun n : Fin 32 => p (ix3 n s l)) (Fin.ext (by show v.val * 8 + q.val = 8 * v.val + q.val; omega))
/-- The four by four sums as sixteen. -/
theorem flat_at (x : Vec Ideal S4x4 .f32) (k : Fin 16) :
    shapeCast S16 x shapeCasts_S4x4_S16 (ix1 k) = x (ix2 ⟨k.val / 4, by omega⟩ ⟨k.val % 4, by omega⟩) := by
  pointwise

/-- Where the row order reads for row `r`. -/
def place (r : ℕ) : ℕ := if r < 8 then 2 * r else 2 * (r - 8) + 1

/-- The row-order table at row `r` is `place r`. -/
theorem order_at (r : Fin 16) : order (ix1 r) = BitVec.ofNat 32 (place r.val) := by
  revert r; decide
/-- That word is the number `place r` read signed, and below sixteen. -/
theorem place_lt (r : Fin 16) : (BitVec.ofNat 32 (place r.val)).toInt.toNat = place r.val ∧ place r.val < 16 := by
  revert r; decide

/-- The host's gather by a table of places. -/
theorem gather_at (f : Vec Ideal S16 .f32) (i : IVec S16x1 32) (r : Fin 16) :
    Host.gather gather_S16_S16x1_S16_n_0_n_n_0_1_1 f i (ix1 r) = f (ix1 ⟨min (i (ix2 r 0)).toInt.toNat 15, by omega⟩) := by
  have e1 : ∀ p : Fin 16, (Shape.Idx.ofFin p : S16.Idx) = ix1 p := fun p => funext fun a => by
    match a with
    | ⟨0, _⟩ => rfl
  have e2 : (StableHlo.Predicate.ixP r : S16x1.Idx) = ix2 r 0 := funext fun a => by
    match a with
    | ⟨0, _⟩ => rfl
    | ⟨1, _⟩ => rfl
  have h := StableHlo.Predicate.gather_take gather_S16_S16x1_S16_n_0_n_n_0_1_1 rfl rfl rfl rfl f i r (by omega)
  rw [e1, e1] at h
  refine h.trans (congrArg (fun k : Fin 16 => f (ix1 k)) (Fin.ext ?_))
  show min (i (StableHlo.Predicate.ixP r)).toInt.toNat (16 - 1) = min (i (ix2 r 0)).toInt.toNat 15
  rw [e2]

/-- The positions that the host code gathers at are the row-order table's: none is negative, so nothing is added. -/
theorem table_at (r : Fin 16) :
    broadcastInDim S16x1 ![0] bcast_S16_S16x1_0
      (select (constantI S16 1 0#1) (addi order (broadcastInDim S16 ![] bcast_S_S16 (constantI S_ 32 16#32))) order) (ix2 r 0)
      = BitVec.ofNat 32 (place r.val) := by
  rw [← order_at]
  pointwise

/-- The linear call at a row. -/
theorem linear_at (u : Vec Ideal S16x50000 .i32) (h : Vec Ideal S50000 .f32) (r : Fin 16) :
    shapeCast S16 (k1_pay1 u (shapeCast S1x50000 h shapeCasts_S50000_S1x50000)) shapeCasts_S16x1_S16 (ix1 r)
      = (∑ k : Fin 50000, Ideal.ofBits .f32 (u (ix2 r k)) * h (ix1 k) : EReal) := by
  pointwise [k1_pay1]

/-- The place that the order reads for row `r` holds the sums of row `r`. -/
theorem row_place (r : Fin 16) : rowFor (2 * (place r.val / 4)) (place r.val % 4) = r.val := by
  revert r; decide

/-- The kernel's result at row `r`. -/
theorem result_at (u : Vec Ideal S16x50000 .i32) (h : Vec Ideal S50000 .f32) (EI EJ : Vec Ideal S1600000 .i32) (J : Vec Ideal S1600000 .f32)
    (hi : ∀ x, (EI x : BitVec 32).toNat < 50000) (hj : ∀ x, (EJ x : BitVec 32).toNat < 50000) (r : Fin 16) :
    result (partsOf (k0_pay1 (F := Ideal) u) EI EJ J) (k1_pay1 u (shapeCast S1x50000 h shapeCasts_S50000_S1x50000)) (ix1 r)
      = ((∑ e ∈ Finset.range 1600000, edgeTerm u EI EJ J r.val e)
          + ∑ k : Fin 50000, Ideal.ofBits .f32 (u (ix2 r k)) * h (ix1 k) : EReal) := by
  obtain ⟨hp, hlt⟩ := place_lt r
  unfold result
  refine congrArg₂ (fun a b : EReal => a + b) ?_ (linear_at u h r)
  rw [gather_at, flat_at, reduce_at]
  have ht := table_at r
  generalize broadcastInDim S16x1 ![0] bcast_S16_S16x1_0
      (select (constantI S16 1 0#1) (addi order (broadcastInDim S16 ![] bcast_S_S16 (constantI S_ 32 16#32))) order) = tab at ht ⊢
  have hm : min (tab (ix2 r 0)).toInt.toNat 15 = place r.val := by rw [ht, hp]; omega
  have key := sum_parts u EI EJ J hi hj (place r.val / 4) (place r.val % 4) (by omega)
  rw [row_place] at key
  rw [← key, Finset.sum_range]
  refine Finset.sum_congr rfl fun q _ => ?_
  rw [Finset.sum_range]
  refine Finset.sum_congr rfl fun l _ => ?_
  rw [blocks_at]
  show pick (accOf _ _ _ _ (tileOf (8 * (min (tab (ix2 r 0)).toInt.toNat 15 / 4) + q.val))) (min (tab (ix2 r 0)).toInt.toNat 15 % 4) (ixL l.val) = _
  rw [hm]

end Cert.Proof.Ising

end
-- ==== Proof.Refer.lean ====
/-
  The reference's result read at a row: the linear sum and all the edges' terms.
-/
module

public import proofs.«01_k».proof.Proof.Sums
public import proofs.«01_k».proof.Proof.Gen.ReferenceIdeal.Run

@[expose] public section

noncomputable section

namespace Cert.Proof.Ising

open Cert.ReferenceIdeal Cert.ReferenceIdeal.Gen
open Idealize.ShloMosaic hiding T

/-! ## The rounded spins -/

/-- A word at every place of the sixteen rows. -/
def everywhere (b : BitVec 32) : IVec S16x50000 32 := broadcastInDim S16x50000 ![] bcast_S_S16x50000 (constantI S_ 32 b)

/-- The reference's rounded spins. -/
def spins (u : Vec Ideal S16x50000 .i32) : FVec Ideal S16x50000 .f32 :=
  bitcastToFloat .f32 (Host.shli (addi (Host.shrui u (everywhere 16#32)) (extui 32
    (ori (cmpi .ugt (andi u (everywhere 65535#32)) (everywhere 32768#32))
      (andi (cmpi .eq (andi u (everywhere 65535#32)) (everywhere 32768#32))
        (cmpi .eq (andi (Host.shrui u (everywhere 16#32)) (everywhere 1#32)) (everywhere 1#32)))) natLt_1_32)) (everywhere 16#32))

/-- A disjunction of bits is one if one of them is. -/
theorem ori_one (a b : BitVec 1) : IntOp.ori a b = 1#1 ↔ a = 1#1 ∨ b = 1#1 := by
  revert a b; decide

/-- The reference's test of the lower half, as the number it adds. -/
theorem test_eq (v : BitVec 32) :
    BitVec.setWidth 32 (IntOp.ori (IntOp.cmpi .ugt (IntOp.andi v 65535#32) 32768#32)
      (IntOp.andi (IntOp.cmpi .eq (IntOp.andi v 65535#32) 32768#32) (IntOp.cmpi .eq (IntOp.andi (v >>> 16) 1#32) 1#32))) = up v := by
  generalize hc : IntOp.ori (IntOp.cmpi .ugt (IntOp.andi v 65535#32) 32768#32)
      (IntOp.andi (IntOp.cmpi .eq (IntOp.andi v 65535#32) 32768#32) (IntOp.cmpi .eq (IntOp.andi (v >>> 16) 1#32) 1#32)) = c
  have key : c = 1#1 ↔ ((v &&& 65535#32).toNat > 32768 ∨ ((v &&& 65535#32).toNat = 32768 ∧ ((v >>> 16) &&& 1#32).toNat = 1)) := by
    rw [← hc, ori_one, IntOp.cmpi_ugt, IntOp.andi_eq_one, IntOp.cmpi_eq, IntOp.cmpi_eq, ← BitVec.toNat_inj, ← BitVec.toNat_inj]
    rfl
  unfold up
  rcases BitVec.eq_zero_or_eq_one c with h | h
  · rw [if_neg (fun e => by have := key.2 e; rw [h] at this; exact absurd this (by decide)), h]; rfl
  · rw [if_pos (key.1 h), h]; rfl

/-- The reference's spin at a row and number is the packing's rounding of the word there. -/
theorem spins_at (u : Vec Ideal S16x50000 .i32) (r : Fin 16) (k : Fin 50000) : spins u (ix2 r k) = spin u r.val k.val := by
  unfold spin
  rw [ixS_eq r.val k.val r.isLt k.isLt, rounded_eq]
  pointwise [spins, everywhere]
  rw [shl_in, shr_in, test_eq]
  rfl

/-! ## The gathers -/

/-- The gather of columns: the operand at the column number read signed and kept in range. -/
theorem cols_at (x : Vec Ideal S16x50000 .f32) (i : IVec S1600000x1 32) (r : Fin 16) (e : Fin 1600000) :
    Host.gather gather_S16x50000_S1600000x1_S16x1600000_0_1_n_n_1_1_161 x i (ix2 r e)
      = x (ix2 r ⟨min (i (ix2 e 0)).toInt.toNat 49999, by omega⟩) := by
  unfold Host.gather
  refine congrArg x (funext fun a => Fin.ext ?_)
  have hb : a ∉ gather_S16x50000_S1600000x1_S16x1600000_0_1_n_n_1_1_161.operandBatchingDims := List.not_mem_nil
  match a with
  | ⟨0, _⟩ =>
    have h : gather_S16x50000_S1600000x1_S16x1600000_0_1_n_n_1_1_161.start (ix2 r e) i 0 = 0 := dif_neg (by
      show (0 : Fin 2) ∉ [1]; decide)
    show gather_S16x50000_S1600000x1_S16x1600000_0_1_n_n_1_1_161.start (ix2 r e) i 0 + 0 + r.val = r.val
    rw [h]; omega
  | ⟨1, _⟩ =>
    have hm : (1 : Fin 2) ∈ gather_S16x50000_S1600000x1_S16x1600000_0_1_n_n_1_1_161.startIndexMap := List.mem_singleton.2 rfl
    have h : gather_S16x50000_S1600000x1_S16x1600000_0_1_n_n_1_1_161.start (ix2 r e) i 1 = min (i (ix2 e 0)).toInt.toNat 49999 := by
      unfold GatherDims.start
      rw [dif_pos hm]
      have hs : gather_S16x50000_S1600000x1_S16x1600000_0_1_n_n_1_1_161.siIdx (ix2 r e)
          ⟨List.idxOf (1 : Fin 2) gather_S16x50000_S1600000x1_S16x1600000_0_1_n_n_1_1_161.startIndexMap, List.idxOf_lt_length_iff.2 hm⟩ = ix2 e 0 := by
        funext b
        match b with
        | ⟨0, _⟩ => rfl
        | ⟨1, _⟩ => rfl
      rw [hs]
      rfl
    show gather_S16x50000_S1600000x1_S16x1600000_0_1_n_n_1_1_161.start (ix2 r e) i 1 + 0 + 0 = min (i (ix2 e 0)).toInt.toNat 49999
    exact h

/-- The ends as a column of start positions, a negative one counted from the end. -/
def starts (e : IVec S1600000 32) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 50000#32))) e)

/-- The reference's spins at the ends. -/
def taken (x : FVec Ideal S16x50000 .f32) (e : IVec S1600000 32) : FVec Ideal S16x1600000 .f32 :=
  select (broadcastInDim S16x1600000 ![1] bcast_S1600000_S16x1600000_1
      (Host.reduce IntOp.andi (andi (cmpi .sge (starts e) (broadcastInDim S1600000x1 ![] bcast_S_S1600000x1 (constantI S_ 32 0#32)))
        (cmpi .sle (starts e) (broadcastInDim S1600000x1 ![0, 1] bcast_S1x1_S1600000x1_0_1
          (broadcastInDim S1x1 ![1] bcast_S1_S1x1_1 (constantI S1 32 49999#32)))))
        (constantI S_ 1 1#1) reducesTo_S1600000x1_S1600000_d1 h_S_))
    (Host.gather gather_S16x50000_S1600000x1_S16x1600000_0_1_n_n_1_1_161 x (starts e))
    (broadcastInDim S16x1600000 ![] bcast_S_S16x1600000 (constant S_ .f32 0x7FC00000#32))

/-- The reference's result, its parts named. -/
def refer (u : Vec Ideal S16x50000 .i32) (h : Vec Ideal S50000 .f32) (J : Vec Ideal S1600000 .f32) (ei ej : IVec S1600000 32) : Vec Ideal S16 .f32 :=
  Host.dotGeneral (F := Ideal) (φ₁ := .f32) (φ₂ := .f32) dot_S16x1650000_S1650000_S16_1_0_0_n_n_n none
    (concatenate S16x1650000 1 [⟨S16x50000, bitcastToFloat (F := Ideal) .f32 u⟩, ⟨S16x1600000, mulf (taken (spins u) ei) (taken (spins u) ej)⟩]
      concatenates_S16x50000_S16x1600000_S16x1650000_d1)
    (concatenate (α := Ideal .f32) S1650000 0 [⟨S50000, h⟩, ⟨S1600000, J⟩] concatenates_S50000_S1600000_S1650000_d0)

set_option maxRecDepth 8192 in
/-- What the reference's run leaves is `refer` of its arguments. -/
theorem res_eq (m : (ℓ : Loc nD τ sig) → Buf (Elt Ideal) ℓ) (c : Dev nD) :
    Cert.ReferenceIdeal.Value.res_main_v25 m c = refer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v25
  rfl

/-- A word below 50000 is the same number read signed. -/
theorem word_signed {v : BitVec 32} (h : v.toNat < 50000) : v.toInt = v.toNat := by
  rw [BitVec.toInt_eq_toNat_cond]; split <;> omega

/-- An end in range is its own start position. -/
theorem starts_at (ei : IVec S1600000 32) (hi : ∀ x, (ei x).toNat < 50000) (e : Fin 1600000) : starts ei (ix2 e 0) = ei (ix1 e) := by
  have h : IntOp.cmpi .slt (ei (ix1 e)) 0#32 ≠ 1#1 := by
    intro c
    have := IntOp.cmpi_slt.1 c
    rw [word_signed (hi _)] at this
    simp at this
    omega
  pointwise [starts]
  exact if_neg h

/-- The reference's spin at an end in range is the spin of that number. -/
theorem taken_at (x : FVec Ideal S16x50000 .f32) (ei : IVec S1600000 32) (hi : ∀ x, (ei x).toNat < 50000) (r : Fin 16) (e : Fin 1600000) :
    taken x ei (ix2 r e) = x (ix2 r ⟨(ei (ix1 e)).toNat, hi _⟩) := by
  have hall : ∀ j, Host.reduce IntOp.andi (andi (cmpi .sge (starts ei) (broadcastInDim S1600000x1 ![] bcast_S_S1600000x1 (constantI S_ 32 0#32)))
        (cmpi .sle (starts ei) (broadcastInDim S1600000x1 ![0, 1] bcast_S1x1_S1600000x1_0_1
          (broadcastInDim S1x1 ![1] bcast_S1_S1x1_1 (constantI S1 32 49999#32)))))
        (constantI S_ 1 1#1) reducesTo_S1600000x1_S1600000_d1 h_S_ j = 1#1 := fun j => by
    refine Host.reduce_andi_one _ _ _ _ _ rfl fun i => ?_
    have hs : ∃ k, starts ei i = ei k := ⟨ix1 (i 0), by
      rw [← starts_at ei hi (i 0)]
      refine congrArg _ (funext fun a => ?_)
      match a with
      | ⟨0, _⟩ => rfl
      | ⟨1, _⟩ => exact Subsingleton.elim (α := Fin 1) _ _⟩
    obtain ⟨k, hk⟩ := hs
    have hw := word_signed (hi k)
    refine IntOp.andi_eq_one.2 ⟨?_, ?_⟩
    · refine IntOp.cmpi_sge.2 ?_
      rw [hk, hw]
      exact Int.natCast_nonneg _
    · refine IntOp.cmpi_sle.2 ?_
      rw [hk, hw]
      show _ ≤ (49999#32 : BitVec 32).toInt
      have := hi k
      rw [show (49999#32 : BitVec 32).toInt = 49999 from rfl]; omega
  unfold taken
  generalize Host.reduce IntOp.andi _ _ _ _ = c at hall ⊢
  rw [show ∀ (a : IVec S16x1600000 1) (y z : FVec Ideal S16x1600000 .f32), a (ix2 r e) = 1#1 → select a y z (ix2 r e) = y (ix2 r e) from
    fun a y z h => if_pos h]
  rotate_left
  · exact hall _
  rw [cols_at]
  refine congrArg (fun k : Fin 50000 => x (ix2 r k)) (Fin.ext ?_)
  show min (starts ei (ix2 e 0)).toInt.toNat 49999 = (ei (ix1 e)).toNat
  have := hi (ix1 e)
  rw [starts_at ei hi, word_signed (hi _)]
  omega

/-! ## The product -/

/-- The host's product at a row: the sum over the columns. -/
theorem dot_at (L : FVec Ideal S16x1650000 .f32) (R : FVec Ideal S1650000 .f32) (r : Fin 16) :
    Host.dotGeneral (F := Ideal) (φ₁ := .f32) (φ₂ := .f32) dot_S16x1650000_S1650000_S16_1_0_0_n_n_n none L R (ix1 r)
      = (∑ k : Fin 1650000, L (ix2 r k) * R (ix1 k) : EReal) := by
  pointwise

/-- The joined columns: the first of them, and the rest. -/
theorem cols_left (x : FVec Ideal S16x50000 .f32) (y : FVec Ideal S16x1600000 .f32) (r : Fin 16) (k : Fin 50000) (hk : k.val < 1650000) :
    concatenate S16x1650000 1 [⟨S16x50000, x⟩, ⟨S16x1600000, y⟩] concatenates_S16x50000_S16x1600000_S16x1650000_d1 (ix2 r ⟨k.val, hk⟩)
      = x (ix2 r k) := by
  refine concatenate_pair_apply_left (1 : Fin 2) x y _ (ix2 r ⟨k.val, hk⟩) rfl (ix2 r k) fun b => ?_
  match b with
  | ⟨0, _⟩ => rfl
  | ⟨1, _⟩ => rfl
/-- From column 50000 the joined statistics are the products of the ends' spins. -/
theorem cols_right (x : FVec Ideal S16x50000 .f32) (y : FVec Ideal S16x1600000 .f32) (r : Fin 16) (k : Fin 1600000) (hk : 50000 + k.val < 1650000) :
    concatenate S16x1650000 1 [⟨S16x50000, x⟩, ⟨S16x1600000, y⟩] concatenates_S16x50000_S16x1600000_S16x1650000_d1 (ix2 r ⟨50000 + k.val, hk⟩)
      = y (ix2 r k) := by
  refine concatenate_pair_apply_right (1 : Fin 2) x y _ (ix2 r ⟨50000 + k.val, hk⟩) rfl rfl (ix2 r k) (fun b hb => ?_) (Nat.add_comm k.val 50000)
  match b with
  | ⟨0, _⟩ => rfl
  | ⟨1, _⟩ => exact absurd rfl hb
/-- The first 50000 joined parameters are the fields. -/
theorem ends_left (x : FVec Ideal S50000 .f32) (y : FVec Ideal S1600000 .f32) (k : Fin 50000) (hk : k.val < 1650000) :
    concatenate S1650000 0 [⟨S50000, x⟩, ⟨S1600000, y⟩] concatenates_S50000_S1600000_S1650000_d0 (ix1 ⟨k.val, hk⟩) = x (ix1 k) := by
  refine concatenate_pair_apply_left (0 : Fin 1) x y _ (ix1 ⟨k.val, hk⟩) rfl (ix1 k) fun b => ?_
  match b with
  | ⟨0, _⟩ => rfl
/-- From number 50000 they are the couplings. -/
theorem ends_right (x : FVec Ideal S50000 .f32) (y : FVec Ideal S1600000 .f32) (k : Fin 1600000) (hk : 50000 + k.val < 1650000) :
    concatenate S1650000 0 [⟨S50000, x⟩, ⟨S1600000, y⟩] concatenates_S50000_S1600000_S1650000_d0 (ix1 ⟨50000 + k.val, hk⟩) = y (ix1 k) := by
  refine concatenate_pair_apply_right (0 : Fin 1) x y _ (ix1 ⟨50000 + k.val, hk⟩) rfl rfl (ix1 k) (fun b hb => ?_) (Nat.add_comm k.val 50000)
  match b with
  | ⟨0, _⟩ => exact absurd rfl hb

/-- The edge of number `e`, as an index. -/
theorem ixE_val (e : Fin 1600000) : ixE e.val = ix1 e := by
  funext a; apply Fin.ext
  match a with
  | ⟨0, _⟩ => exact Nat.mod_eq_of_lt e.isLt

/-- The reference's result at row `r`. -/
theorem refer_at (u : Vec Ideal S16x50000 .i32) (h : Vec Ideal S50000 .f32) (J : Vec Ideal S1600000 .f32) (ei ej : IVec S1600000 32)
    (hi : ∀ x, (ei x).toNat < 50000) (hj : ∀ x, (ej x).toNat < 50000) (r : Fin 16) :
    refer u h J ei ej (ix1 r)
      = ((∑ k : Fin 50000, Ideal.ofBits .f32 (u (ix2 r k)) * h (ix1 k)) + ∑ e ∈ Finset.range 1600000, edgeTerm u ei ej J r.val e : EReal) := by
  unfold refer
  rw [dot_at, Fin.sum_univ_two_halves 50000 1600000 (by norm_num), Finset.sum_range]
  refine congrArg₂ (fun a b : EReal => a + b) (Finset.sum_congr rfl fun k _ => ?_) (Finset.sum_congr rfl fun e _ => ?_)
  · rw [cols_left, ends_left]; rfl
  · rw [cols_right, ends_right]
    show taken (spins u) ei (ix2 r e) * taken (spins u) ej (ix2 r e) * J (ix1 e) = _
    rw [taken_at _ _ hi, taken_at _ _ hj, spins_at, spins_at]
    unfold edgeTerm
    rw [ixE_val]

end Cert.Proof.Ising

end
-- ==== Proof.Value.lean ====
/-
  The two results are one array over the extended reals, and what the two runs say of it.
-/
module

public import proofs.«01_k».proof.Proof.Rows
public import proofs.«01_k».proof.Proof.Refer

@[expose] public section

noncomputable section

namespace Cert.Proof.Ising

open Idealize.ShloMosaic hiding T
open Idealize.SL.Sem

/-- With the ends in range, the kernel's result is the reference's. -/
theorem result_eq (u : Vec Ideal Cert.KernelIdeal.S16x50000 .i32) (h : Vec Ideal Cert.KernelIdeal.S50000 .f32) (J : Vec Ideal Cert.KernelIdeal.S1600000 .f32)
    (ei ej : Vec Ideal Cert.KernelIdeal.S1600000 .i32) (hi : ∀ x, (ei x : BitVec 32).toNat < 50000) (hj : ∀ x, (ej x : BitVec 32).toNat < 50000) :
    result (partsOf (Cert.KernelIdeal.Gen.k0_pay1 (F := Ideal) u) ei ej J)
        (Cert.KernelIdeal.Gen.k1_pay1 u (shapeCast Cert.KernelIdeal.S1x50000 h Cert.KernelIdeal.Gen.shapeCasts_S50000_S1x50000))
      = refer u h J ei ej := by
  funext x
  have hx : x = ix1 (x 0) := by
    funext a
    match a with
    | ⟨0, _⟩ => rfl
  rw [hx]
  exact (result_at u h ei ej J hi hj (x 0)).trans ((add_comm _ _).trans (refer_at u h J ei ej hi hj (x 0)).symm)

/-- From any inputs with the ends in range, the kernel's program and the reference end with the same result and leave their arguments. -/
theorem same_result : Cert.algebraic_KernelIdeal_ReferenceIdeal := by
  intro m g m' g' hpre hag
  have hr : InRange m := fun d => in_range _ _ _ _ _ (hpre d)
  refine ⟨fun c => result (parts m c) (linear m c),
    (θ_run Cert.KernelIdeal.defs _ _).mono (fun _ h c => h.1 c) (run_args (F := Ideal) m g hr),
    (θ_run Cert.ReferenceIdeal.defs _ _).mono (fun _ h c => ⟨(h c).1.trans ?_, (h c).2⟩) (Cert.ReferenceIdeal.Value.run (F := Ideal) m' g')⟩
  obtain ⟨h0, h1, h2, h3, h4⟩ := hag c
  rw [res_eq, h0, h1, h2, h3, h4]
  exact (result_eq _ _ _ _ _ (hr c).1 (hr c).2).symm

end Cert.Proof.Ising

end
-- ==== Proof.lean ====
module

public import proofs.«01_k».proof.Defs
public import proofs.«01_k».proof.Proof.Frames
public import proofs.«01_k».proof.Proof.Value

@[expose] public section

noncomputable section

namespace Cert.Proof

/-- Everything claimed of the kernel. -/
theorem claim : Cert.Claim :=
  ⟨Cert.Kernel.Gen.facts, Cert.KernelIdeal.Gen.facts, Cert.ReferenceIdeal.Gen.facts, Cert.Pre_in_range.Gen.facts,
    Ising.frame_kernel, Ising.frame_ideal, Ising.frame_reference, Ising.frame_reference_pre, trivial, Ising.same_result⟩

end Cert.Proof

end
